-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x64x8x32x32 : Shape := ⟨5, ![4, 64, 8, 32, 32]⟩
abbrev S1024x64 : Shape := ⟨2, ![1024, 64]⟩
abbrev S_ : Shape := ⟨0, ![]⟩

class Facts : Prop where
  bcast_S_S4x64x8x32x32 : S_.BroadcastsInDim S4x64x8x32x32 (![] : Fin 0 → Fin S4x64x8x32x32.rank)
  reducesTo_S4x64x8x32x32_S_d0_1_2_3_4 : S4x64x8x32x32.ReducesTo [0, 1, 2, 3, 4] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S4x64x8x32x32 .f32) (main_arg1 : FVec F S1024x64 .f32) : IVec S_ 1 × IVec S_ 1 :=
  let main_v0 : FVec F S4x64x8x32x32 .f32 := Host.absf main_arg0
  let main_cst : FVec F S_ .f32 := constant S_ .f32 0x7F800000#32
  let main_v1 : FVec F S4x64x8x32x32 .f32 := broadcastInDim S4x64x8x32x32 ![] bcast_S_S4x64x8x32x32 main_cst
  let main_v2 : IVec S4x64x8x32x32 1 := cmpf .olt main_v0 main_v1
  let main_c : IVec S_ 1 := constantI S_ 1 1#1
  let main_v3 : IVec S_ 1 := (fun x v => Host.reduce IntOp.andi x v reducesTo_S4x64x8x32x32_S_d0_1_2_3_4 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  (main_v3, main_v7)
-- ==== Kernel.lean ====
abbrev S4x64x8x32x32 : Shape := ⟨5, ![4, 64, 8, 32, 32]⟩
abbrev S1024x64 : Shape := ⟨2, ![1024, 64]⟩
abbrev S4x8x32x32x64 : Shape := ⟨5, ![4, 8, 32, 32, 64]⟩
abbrev S32768x64 : Shape := ⟨2, ![32768, 64]⟩
abbrev S8x1x4096 : Shape := ⟨3, ![8, 1, 4096]⟩
abbrev S1x1 : Shape := ⟨2, ![1, 1]⟩
abbrev S4096x64 : Shape := ⟨2, ![4096, 64]⟩
abbrev S1x1x4096 : Shape := ⟨3, ![1, 1, 4096]⟩
abbrev S4096 : Shape := ⟨1, ![4096]⟩
abbrev S4096x1 : Shape := ⟨2, ![4096, 1]⟩
abbrev S4096x1024 : Shape := ⟨2, ![4096, 1024]⟩
abbrev S1024 : Shape := ⟨1, ![1024]⟩
abbrev S1x1024 : Shape := ⟨2, ![1, 1024]⟩
abbrev S1x4096x1 : Shape := ⟨3, ![1, 4096, 1]⟩
abbrev S1 : Shape := ⟨1, ![1]⟩
abbrev S1x1x1 : Shape := ⟨3, ![1, 1, 1]⟩
abbrev S4x8x32x32 : Shape := ⟨4, ![4, 8, 32, 32]⟩
abbrev S_ : Shape := ⟨0, ![]⟩

abbrev nBuf : Space → Nat
  | .hbm => 11
  | .vmem => 7
  | .smem => 1
  | _ => 0

abbrev bufTy : (tb : Table) → Fin (tcTables nBuf tb) → BufTy
  | .hbm, ⟨0, _⟩ => ⟨S4x64x8x32x32, .f32⟩
  | .hbm, ⟨1, _⟩ => ⟨S1024x64, .f32⟩
  | .hbm, ⟨2, _⟩ => ⟨S4x8x32x32x64, .f32⟩
  | .hbm, ⟨3, _⟩ => ⟨S32768x64, .f32⟩
  | .hbm, ⟨4, _⟩ => ⟨S32768x64, .f32⟩
  | .hbm, ⟨5, _⟩ => ⟨S8x1x4096, .i32⟩
  | .hbm, ⟨6, _⟩ => ⟨S1x1, .f32⟩
  | .hbm, ⟨7, _⟩ => ⟨S4x8x32x32x64, .f32⟩
  | .hbm, ⟨8, _⟩ => ⟨S4x64x8x32x32, .f32⟩
  | .hbm, ⟨9, _⟩ => ⟨S4x8x32x32, .i32⟩
  | .hbm, ⟨10, _⟩ => ⟨S_, .f32⟩
  | .local _ .vmem, ⟨0, _⟩ => ⟨S4096x64, .f32⟩
  | .local _ .vmem, ⟨1, _⟩ => ⟨S4096x64, .f32⟩
  | .local _ .vmem, ⟨2, _⟩ => ⟨S1024x64, .f32⟩
  | .local _ .vmem, ⟨3, _⟩ => ⟨S4096x64, .f32⟩
  | .local _ .vmem, ⟨4, _⟩ => ⟨S4096x64, .f32⟩
  | .local _ .vmem, ⟨5, _⟩ => ⟨S1x1x4096, .i32⟩
  | .local _ .vmem, ⟨6, _⟩ => ⟨S1x1x4096, .i32⟩
  | .local _ .smem, ⟨0, _⟩ => ⟨S1x1, .f32⟩
  | _, _ => ⟨S4x64x8x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S4x64x8x32x32 : Shape := ⟨5, ![4, 64, 8, 32, 32]⟩
abbrev S1024x64 : Shape := ⟨2, ![1024, 64]⟩
abbrev S4x8x32x32x64 : Shape := ⟨5, ![4, 8, 32, 32, 64]⟩
abbrev S32768x64 : Shape := ⟨2, ![32768, 64]⟩
abbrev S_ : Shape := ⟨0, ![]⟩
abbrev S32768 : Shape := ⟨1, ![32768]⟩
abbrev S32768x1 : Shape := ⟨2, ![32768, 1]⟩
abbrev S1024 : Shape := ⟨1, ![1024]⟩
abbrev S1x1024 : Shape := ⟨2, ![1, 1024]⟩
abbrev S32768x1024 : Shape := ⟨2, ![32768, 1024]⟩
abbrev S64x1024 : Shape := ⟨2, ![64, 1024]⟩
abbrev S4x8x32x32 : Shape := ⟨4, ![4, 8, 32, 32]⟩
abbrev S1 : Shape := ⟨1, ![1]⟩
abbrev S1x1 : Shape := ⟨2, ![1, 1]⟩

abbrev nBuf : Space → Nat
  | .hbm => 69
  | .vmem => 0
  | .smem => 0
  | _ => 0

abbrev bufTy : (tb : Table) → Fin (tcTables nBuf tb) → BufTy
  | .hbm, ⟨0, _⟩ => ⟨S4x64x8x32x32, .f32⟩
  | .hbm, ⟨1, _⟩ => ⟨S1024x64, .f32⟩
  | .hbm, ⟨2, _⟩ => ⟨S4x8x32x32x64, .f32⟩
  | .hbm, ⟨3, _⟩ => ⟨S32768x64, .f32⟩
  | .hbm, ⟨4, _⟩ => ⟨S32768x64, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S1024x64, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S64x1024, .f32⟩
  | .hbm, ⟨16, _⟩ => ⟨S32768x1024, .f32⟩
  | .hbm, ⟨17, _⟩ => ⟨S_, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S32768x1024, .i32⟩
  | .hbm, ⟨22, _⟩ => ⟨S_, .f32⟩
  | .hbm, ⟨23, _⟩ => ⟨S_, .i32⟩
  | .hbm, ⟨24, _⟩ => ⟨S32768, .f32⟩
  | .hbm, ⟨25, _⟩ => ⟨S32768, .i32⟩
  | .hbm, ⟨26, _⟩ => ⟨S4x8x32x32, .i32⟩
  | .hbm, ⟨27, _⟩ => ⟨S_, .i32⟩
  | .hbm, ⟨28, _⟩ => ⟨S32768, .i32⟩
  | .hbm, ⟨29, _⟩ => ⟨S32768, .i1⟩
  | .hbm, ⟨30, _⟩ => ⟨S_, .i32⟩
  | .hbm, ⟨31, _⟩ => ⟨S32768, .i32⟩
  | .hbm, ⟨32, _⟩ => ⟨S32768, .i32⟩
  | .hbm, ⟨33, _⟩ => ⟨S32768, .i32⟩
  | .hbm, ⟨34, _⟩ => ⟨S32768x1, .i32⟩
  | .hbm, ⟨35, _⟩ => ⟨S1, .i32⟩
  | .hbm, ⟨36, _⟩ => ⟨S_, .i32⟩
  | .hbm, ⟨37, _⟩ => ⟨S32768x1, .i32⟩
  | .hbm, ⟨38, _⟩ => ⟨S32768x1, .i1⟩
  | .hbm, ⟨39, _⟩ => ⟨S1x1, .i32⟩
  | .hbm, ⟨40, _⟩ => ⟨S32768x1, .i32⟩
  | .hbm, ⟨41, _⟩ => ⟨S32768x1, .i1⟩
  | .hbm, ⟨42, _⟩ => ⟨S32768x1, .i1⟩
  | .hbm, ⟨43, _⟩ => ⟨S_, .i1⟩
  | .hbm, ⟨44, _⟩ => ⟨S32768, .i1⟩
  | .hbm, ⟨45, _⟩ => ⟨S32768x64, .f32⟩
  | .hbm, ⟨46, _⟩ => ⟨S32768x64, .i1⟩
  | .hbm, ⟨47, _⟩ => ⟨S_, .f32⟩
  | .hbm, ⟨48, _⟩ => ⟨S32768x64, .f32⟩
  | .hbm, ⟨49, _⟩ => ⟨S32768x64, .f32⟩
  | .hbm, ⟨50, _⟩ => ⟨S4x8x32x32x64, .f32⟩
  | .hbm, ⟨51, _⟩ => ⟨S4x64x8x32x32, .f32⟩
  | .hbm, ⟨52, _⟩ => ⟨S4x64x8x32x32, .f32⟩
  | .hbm, ⟨53, _⟩ => ⟨S4x64x8x32x32, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S4x64x8x32x32, .f32⟩
  | .hbm, ⟨59, _⟩ => ⟨S4x64x8x32x32, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S4x64x8x32x32, .f32⟩
  | .hbm, ⟨68, _⟩ => ⟨S4x64x8x32x32, .f32⟩
  | _, _ => ⟨S4x64x8x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_v17 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_cst_2 : Ref sig .tc := ⟨.hbm, 54, rfl⟩
abbrev main_v23 : Ref sig .tc := ⟨.hbm, 55, rfl⟩
abbrev main_cst_3 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_cst_4 : Ref sig .tc := ⟨.hbm, 60, rfl⟩
abbrev main_v27 : Ref sig .tc := ⟨.hbm, 61, rfl⟩
abbrev main_cst_5 : Ref sig .tc := ⟨.hbm, 62, rfl⟩
abbrev main_v28 : Ref sig .tc := ⟨.hbm, 63, rfl⟩
abbrev main_cst_6 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩

abbrev nD : Nat := 1
abbrev τ : Topo := Topo.v7x

variable {F : FTy → Type} [FloatOps F]
-- ==== Proof.KBlock.lean ====
/- What one grid point of the kernel leaves in its three output blocks, as functions of the block of tokens it reads, the
   codebook, and (for the loss cell) what the point before it left there. The first point starts the loss cell from
   zero, the points between add their sum to it, and the last one also turns the total into the loss. -/
module

public import proofs.«01_k».proof.Proof.Gen.KernelIdeal.Frame
public import Idealize.ShloMosaic.Lib.Pipeline.Value
public import Idealize.ShloMosaic.Lib.Tactic

@[expose] public section

noncomputable section

namespace Cert.Vq.Kern

open Cert.KernelIdeal Cert.KernelIdeal.Gen Idealize.ShloMosaic Idealize.ShloMosaic.TcCoe Idealize.SL.Sem

variable {F : FTy → Type} [FloatOps F]

/-- The nearest code of every token of the block `x`. -/
abbrev near (x : Vec F S4096x64 .f32) (w : Vec F S1024x64 .f32) : IVec S4096 32 := k0_pay7 x w

/-- The block of the straight-through result. -/
abbrev throughBlock (x : Vec F S4096x64 .f32) (w : Vec F S1024x64 .f32) : FVec F S4096x64 .f32 :=
  k0_pay2 (k0_pay4 x) w (iota .tc S4096x1024 32 [1] iota_S4096x1024_d1_w32) (k0_pay7 x w)

/-- The one cell of the loss output. -/
abbrev cell : S1x1.Idx := Shape.Idx.first (s := S1x1) (by decide)

theorem cell_one (j : S1x1.Idx) : j = cell := funext fun a => Fin.ext (by
  match a with
  | ⟨0, _⟩ => have h := (j 0).isLt; have : S1x1.size 0 = 1 := rfl; have h' := (cell 0).isLt; show (j 0).val = (cell 0).val; omega
  | ⟨1, _⟩ => have h := (j 1).isLt; have : S1x1.size 1 = 1 := rfl; have h' := (cell 1).isLt; show (j 1).val = (cell 1).val; omega)

/-- The loss cell's start. -/
abbrev zeroCell : Elt F .f32 := Scalar.ofBits .f32 0x00000000#32

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (a1 : Memref sig .tc .vmem S4096x64 .f32) (h1 : a1.IsWhole)
  (a2 : Memref sig .tc .vmem S1024x64 .f32) (h2 : a2.IsWhole) (a3 : Memref sig .tc .vmem S4096x64 .f32) (h3 : a3.IsWhole)
  (a4 : Memref sig .tc .vmem S1x1x4096 .i32) (h4 : a4.IsWhole) (a5 : Memref sig .tc .smem S1x1 .f32) (h5 : a5.IsWhole)
  (x : Vec F S4096x64 .f32) (w : Vec F S1024x64 .f32)

/-- What the first point leaves in output 0: the straight-through block. -/
theorem out_A_2 (hc0 : cond0_0 i) (hc1 : ¬cond0_1 i) :
    out0_A_2 c i a1 h1 a2 h2 a3 h3 a4 h4 a5 h5 hc0 hc1 x w = throughBlock x w := by
  unfold out0_A_2
  rw [View.read_writes_eq_canon _ _ _ (cover0_A_2 c i a1 h1 a2 h2 a3 h3 a4 h4 a5 h5 hc0 hc1 x w)]
  unfold kernelRun0_A
  dsimp only
  sl_unfold_words
  rw [View.canon_unit_zero hz2]
  simp only [View.readAt_eq_ld, h1.read_unread, h2.read_unread, View.ld_unit_zero (S := S4096x64) hz2,
    View.ld_unit_zero (S := S1024x64) hz2]

/-- What the first point leaves in output 1: the block of nearest codes. -/
theorem out_A_3 (hc0 : cond0_0 i) (hc1 : ¬cond0_1 i) :
    out0_A_3 c i a1 h1 a2 h2 a3 h3 a4 h4 a5 h5 hc0 hc1 x w = k0_pay3 (near x w) := by
  unfold out0_A_3
  rw [View.read_writes_eq_canon _ _ _ (cover0_A_3 c i a1 h1 a2 h2 a3 h3 a4 h4 a5 h5 hc0 hc1 x w)]
  unfold kernelRun0_A
  dsimp only
  sl_unfold_words
  rw [View.canon_unit_zero hz3]
  simp only [View.readAt_eq_ld, h1.read_unread, h2.read_unread, View.ld_unit_zero (S := S4096x64) hz2,
    View.ld_unit_zero (S := S1024x64) hz2]

/-- What the first point leaves in output 2: the sum of its least distances, from zero. -/
theorem out_A_4 (hc0 : cond0_0 i) (hc1 : ¬cond0_1 i) :
    out0_A_4 c i a1 h1 a2 h2 a3 h3 a4 h4 a5 h5 hc0 hc1 x w = fun _ => k0_pay8 x w zeroCell := by
  unfold out0_A_4
  rw [View.read_writes_eq_canon _ _ _ (cover0_A_4 c i a1 h1 a2 h2 a3 h3 a4 h4 a5 h5 hc0 hc1 x w)]
  unfold kernelRun0_A
  dsimp only
  sl_unfold_words
  rw [View.canon_cons_unit_zero (S := S1x1) hz2]
  simp only [View.readAt_eq_ld, h1.read_unread, h2.read_unread, View.ld_unit_zero (S := S4096x64) hz2,
    View.ld_unit_zero (S := S1024x64) hz2, View.readCov_unit_zero (S := S1x1) _ hz2]
  rfl

/-- What a point between leaves in output 0: the straight-through block. -/
theorem out_B_2 (hc0 : ¬cond0_0 i) (hc1 : ¬cond0_1 i) (o : Vec F S1x1 .f32) :
    out0_B_2 c i a1 h1 a2 h2 a3 h3 a4 h4 a5 h5 hc0 hc1 x w o = throughBlock x w := by
  unfold out0_B_2
  rw [View.read_writes_eq_canon _ _ _ (cover0_B_2 c i a1 h1 a2 h2 a3 h3 a4 h4 a5 h5 hc0 hc1 x w o)]
  unfold kernelRun0_B
  dsimp only
  sl_unfold_words
  rw [View.canon_unit_zero hz2]
  simp only [View.readAt_eq_ld, h1.read_unread, h2.read_unread, View.ld_unit_zero (S := S4096x64) hz2,
    View.ld_unit_zero (S := S1024x64) hz2]

/-- What a point between leaves in output 1: the block of nearest codes. -/
theorem out_B_3 (hc0 : ¬cond0_0 i) (hc1 : ¬cond0_1 i) (o : Vec F S1x1 .f32) :
    out0_B_3 c i a1 h1 a2 h2 a3 h3 a4 h4 a5 h5 hc0 hc1 x w o = k0_pay3 (near x w) := by
  unfold out0_B_3
  rw [View.read_writes_eq_canon _ _ _ (cover0_B_3 c i a1 h1 a2 h2 a3 h3 a4 h4 a5 h5 hc0 hc1 x w o)]
  unfold kernelRun0_B
  dsimp only
  sl_unfold_words
  rw [View.canon_unit_zero hz3]
  simp only [View.readAt_eq_ld, h1.read_unread, h2.read_unread, View.ld_unit_zero (S := S4096x64) hz2,
    View.ld_unit_zero (S := S1024x64) hz2]

/-- What a point between leaves in output 2: the cell it found plus the sum of its least distances. -/
theorem out_B_4 (hc0 : ¬cond0_0 i) (hc1 : ¬cond0_1 i) (o : Vec F S1x1 .f32) :
    out0_B_4 c i a1 h1 a2 h2 a3 h3 a4 h4 a5 h5 hc0 hc1 x w o = fun _ => k0_pay8 x w (o cell) := by
  unfold out0_B_4
  rw [View.read_writes_eq_canon _ _ _ (cover0_B_4 c i a1 h1 a2 h2 a3 h3 a4 h4 a5 h5 hc0 hc1 x w o)]
  unfold kernelRun0_B
  dsimp only
  sl_unfold_words
  rw [View.canon_unit_zero (S := S1x1) hz2]
  simp only [View.readAt_eq_ld, h1.read_unread, h2.read_unread, View.ld_unit_zero (S := S4096x64) hz2,
    View.ld_unit_zero (S := S1024x64) hz2, View.readCov_unit_zero (S := S1x1) _ hz2, h5.read_unread, View.ld_unit_zero (S := S1x1) hz2]
  exact funext fun _ => congrArg (k0_pay8 x w) (congrArg o (cell_one _))

/-- What the last point leaves in output 0: the straight-through block. -/
theorem out_C_2 (hc0 : ¬cond0_0 i) (hc1 : cond0_1 i) (o : Vec F S1x1 .f32) :
    out0_C_2 c i a1 h1 a2 h2 a3 h3 a4 h4 a5 h5 hc0 hc1 x w o = throughBlock x w := by
  unfold out0_C_2
  rw [View.read_writes_eq_canon _ _ _ (cover0_C_2 c i a1 h1 a2 h2 a3 h3 a4 h4 a5 h5 hc0 hc1 x w o)]
  unfold kernelRun0_C
  dsimp only
  sl_unfold_words
  rw [View.canon_unit_zero hz2]
  simp only [View.readAt_eq_ld, h1.read_unread, h2.read_unread, View.ld_unit_zero (S := S4096x64) hz2,
    View.ld_unit_zero (S := S1024x64) hz2]

/-- What the last point leaves in output 1: the block of nearest codes. -/
theorem out_C_3 (hc0 : ¬cond0_0 i) (hc1 : cond0_1 i) (o : Vec F S1x1 .f32) :
    out0_C_3 c i a1 h1 a2 h2 a3 h3 a4 h4 a5 h5 hc0 hc1 x w o = k0_pay3 (near x w) := by
  unfold out0_C_3
  rw [View.read_writes_eq_canon _ _ _ (cover0_C_3 c i a1 h1 a2 h2 a3 h3 a4 h4 a5 h5 hc0 hc1 x w o)]
  unfold kernelRun0_C
  dsimp only
  sl_unfold_words
  rw [View.canon_unit_zero hz3]
  simp only [View.readAt_eq_ld, h1.read_unread, h2.read_unread, View.ld_unit_zero (S := S4096x64) hz2,
    View.ld_unit_zero (S := S1024x64) hz2]

/-- What the last point leaves in output 2: the loss made of the total. -/
theorem out_C_4 (hc0 : ¬cond0_0 i) (hc1 : cond0_1 i) (o : Vec F S1x1 .f32) :
    out0_C_4 c i a1 h1 a2 h2 a3 h3 a4 h4 a5 h5 hc0 hc1 x w o = fun _ => k0_pay1 (k0_pay8 x w (o cell)) := by
  unfold out0_C_4
  rw [View.read_writes_eq_canon _ _ _ (cover0_C_4 c i a1 h1 a2 h2 a3 h3 a4 h4 a5 h5 hc0 hc1 x w o)]
  unfold kernelRun0_C
  dsimp only
  sl_unfold_words
  rw [View.canon_cons_unit_zero (S := S1x1) hz2]
  simp only [View.readAt_eq_ld, h1.read_unread, h2.read_unread, View.ld_unit_zero (S := S4096x64) hz2,
    View.ld_unit_zero (S := S1024x64) hz2, View.readCov_unit_zero (S := S1x1) _ hz2, h5.read_unread, View.ld_unit_zero (S := S1x1) hz2]
  exact funext fun _ => congrArg (fun z => k0_pay1 (k0_pay8 x w z)) (congrArg o (cell_one _))

end Cert.Vq.Kern

end
-- ==== Proof.KRun.lean ====
/- The kernel, run. Its three output arrays after the last grid point, as functions of the flattened tokens and the code
   book: the straight-through rows and the codes block by block, and the loss cell, which the eight points build up in
   turn and only the last one writes back. Then the whole program: the tokens come from the input by the host's
   transposition, and the results from the arrays by the host's reshapes. -/
module

public import proofs.«01_k».proof.Proof.KBlock
public import Idealize.ShloMosaic.Lib.ValueIdx
public import Idealize.ShloMosaic.Lib.StableHlo.Run
public import Idealize.ShloMosaic.Lib.Tactic

@[expose] public section

noncomputable section

namespace Cert.Vq.Kern

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ) (ρ : Dev nD → PrngReg)

/-- Block `b` of the tokens. -/
def tokBlock (X : FVec F S32768x64 .f32) (b : Fin 8) : FVec F S4096x64 .f32 := fun j =>
  X (ix2 ⟨4096 * b.val + (j 0).val, by have h := (j 0).isLt; have : S4096x64.size 0 = 4096 := rfl; have := b.isLt; omega⟩
    ⟨(j 1).val, (j 1).isLt⟩)

/-- The tokens the region finds. -/
abbrev toks (c : Dev nD) : FVec F S32768x64 .f32 := V m c main_v1
/-- The code book the region finds. -/
abbrev book (c : Dev nD) : FVec F S1024x64 .f32 := V m c main_arg1

/-- A grid point as a block number. -/
abbrev blkNo (t : Fin cfg0.N) : Fin 8 := ⟨t.val, by have := t.isLt; have : cfg0.N = 8 := N_0; omega⟩

theorem iblk0 (c : Dev nD) (t : Fin cfg0.N) : (iblk m c 0 t : FVec F S4096x64 .f32) = tokBlock (toks m c) (blkNo t) := by
  have hi : win0_0.index t 0 = t.val ∧ win0_0.index t 1 = 0 := by
    rcases fin_N0 t with rfl | rfl | rfl | rfl | rfl | rfl | rfl | rfl <;> decide
  funext j
  unfold iblk tokBlock
  rw [View.read_apply]
  show V m c main_v1 _ = V m c main_v1 _
  congr 1
  funext a
  apply Fin.ext
  match a with
  | ⟨0, _⟩ => show win0_0.index t 0 * 4096 + 1 * (j 0).val = 4096 * t.val + (j 0).val; rw [hi.1]; omega
  | ⟨1, _⟩ => show win0_0.index t 1 * 64 + 1 * (j 1).val = (j 1).val; rw [hi.2]; omega

theorem iblk1 (c : Dev nD) (t : Fin cfg0.N) : (iblk m c 1 t : FVec F S1024x64 .f32) = book m c := by
  have hi : win0_1.index t 0 = 0 ∧ win0_1.index t 1 = 0 := by
    rcases fin_N0 t with rfl | rfl | rfl | rfl | rfl | rfl | rfl | rfl <;> decide
  funext j
  unfold iblk
  rw [View.read_apply]
  show V m c main_arg1 _ = V m c main_arg1 _
  congr 1
  funext a
  apply Fin.ext
  match a with
  | ⟨0, _⟩ => show win0_1.index t 0 * 1024 + 1 * (j 0).val = (j 0).val; rw [hi.1]; omega
  | ⟨1, _⟩ => show win0_1.index t 1 * 64 + 1 * (j 1).val = (j 1).val; rw [hi.2]; omega

/-- The block of codes the kernel stores for a block of tokens. -/
def codeBlock (x : FVec F S4096x64 .f32) (w : FVec F S1024x64 .f32) : IVec S1x1x4096 32 := k0_pay3 (near x w)

/-- What the first point leaves in the three output blocks. -/
theorem point_A (c : Dev nD) (t : Fin cfg0.N) (h0 : t.val % 8 = 0) (h1 : ¬t.val % 8 = 7) :
    outsAt0 m c t.val t.isLt = (throughBlock (tokBlock (toks m c) (blkNo t)) (book m c),
      codeBlock (tokBlock (toks m c) (blkNo t)) (book m c),
      fun _ => k0_pay8 (tokBlock (toks m c) (blkNo t)) (book m c) zeroCell) := by
  rw [← iblk0, ← iblk1]
  exact (outsAt0_A m c t h0 h1).trans (congrArg₂ Prod.mk
    (out_A_2 c (grid0.coords t) (ms0_0 t) (hs0_0 t) (ms0_1 t) (hs0_1 t) (ms0_2 t) (hs0_2 t) (ms0_3 t) (hs0_3 t) (ms0_4 t) (hs0_4 t)
      (iblk m c 0 t) (iblk m c 1 t) ((hcond0_0 t).mpr h0) (fun h => h1 ((hcond0_1 t).mp h)))
    (congrArg₂ Prod.mk
      (out_A_3 c (grid0.coords t) (ms0_0 t) (hs0_0 t) (ms0_1 t) (hs0_1 t) (ms0_2 t) (hs0_2 t) (ms0_3 t) (hs0_3 t) (ms0_4 t) (hs0_4 t)
      (iblk m c 0 t) (iblk m c 1 t) ((hcond0_0 t).mpr h0) (fun h => h1 ((hcond0_1 t).mp h)))
      (out_A_4 c (grid0.coords t) (ms0_0 t) (hs0_0 t) (ms0_1 t) (hs0_1 t) (ms0_2 t) (hs0_2 t) (ms0_3 t) (hs0_3 t) (ms0_4 t) (hs0_4 t)
      (iblk m c 0 t) (iblk m c 1 t) ((hcond0_0 t).mpr h0) (fun h => h1 ((hcond0_1 t).mp h)))))

/-- What a point in the middle leaves there: the loss cell goes on from what the point before left. -/
theorem point_B (c : Dev nD) (t : Fin cfg0.N) (h0 : ¬t.val % 8 = 0) (h1 : ¬t.val % 8 = 7) :
    outsAt0 m c t.val t.isLt = (throughBlock (tokBlock (toks m c) (blkNo t)) (book m c),
      codeBlock (tokBlock (toks m c) (blkNo t)) (book m c),
      fun _ => k0_pay8 (tokBlock (toks m c) (blkNo t)) (book m c) ((outsAt0 m c (t.val - 1) (Nat.lt_of_le_of_lt (Nat.sub_le _ _) t.isLt)).2.2 cell)) := by
  rw [← iblk0, ← iblk1]
  exact (outsAt0_B m c t h0 h1).trans (congrArg₂ Prod.mk
    (out_B_2 c (grid0.coords t) (ms0_0 t) (hs0_0 t) (ms0_1 t) (hs0_1 t) (ms0_2 t) (hs0_2 t) (ms0_3 t) (hs0_3 t) (ms0_4 t) (hs0_4 t)
      (iblk m c 0 t) (iblk m c 1 t) (fun h => h0 ((hcond0_0 t).mp h)) (fun h => h1 ((hcond0_1 t).mp h)) ((outsAt0 m c (t.val - 1) (Nat.lt_of_le_of_lt (Nat.sub_le _ _) t.isLt)).2.2))
    (congrArg₂ Prod.mk
      (out_B_3 c (grid0.coords t) (ms0_0 t) (hs0_0 t) (ms0_1 t) (hs0_1 t) (ms0_2 t) (hs0_2 t) (ms0_3 t) (hs0_3 t) (ms0_4 t) (hs0_4 t)
      (iblk m c 0 t) (iblk m c 1 t) (fun h => h0 ((hcond0_0 t).mp h)) (fun h => h1 ((hcond0_1 t).mp h)) ((outsAt0 m c (t.val - 1) (Nat.lt_of_le_of_lt (Nat.sub_le _ _) t.isLt)).2.2))
      (out_B_4 c (grid0.coords t) (ms0_0 t) (hs0_0 t) (ms0_1 t) (hs0_1 t) (ms0_2 t) (hs0_2 t) (ms0_3 t) (hs0_3 t) (ms0_4 t) (hs0_4 t)
      (iblk m c 0 t) (iblk m c 1 t) (fun h => h0 ((hcond0_0 t).mp h)) (fun h => h1 ((hcond0_1 t).mp h)) ((outsAt0 m c (t.val - 1) (Nat.lt_of_le_of_lt (Nat.sub_le _ _) t.isLt)).2.2))))

/-- What the last point leaves there: the loss of the whole total. -/
theorem point_C (c : Dev nD) (t : Fin cfg0.N) (h0 : ¬t.val % 8 = 0) (h1 : t.val % 8 = 7) :
    outsAt0 m c t.val t.isLt = (throughBlock (tokBlock (toks m c) (blkNo t)) (book m c),
      codeBlock (tokBlock (toks m c) (blkNo t)) (book m c),
      fun _ => k0_pay1 (k0_pay8 (tokBlock (toks m c) (blkNo t)) (book m c) ((outsAt0 m c (t.val - 1) (Nat.lt_of_le_of_lt (Nat.sub_le _ _) t.isLt)).2.2 cell))) := by
  rw [← iblk0, ← iblk1]
  exact (outsAt0_C m c t h0 h1).trans (congrArg₂ Prod.mk
    (out_C_2 c (grid0.coords t) (ms0_0 t) (hs0_0 t) (ms0_1 t) (hs0_1 t) (ms0_2 t) (hs0_2 t) (ms0_3 t) (hs0_3 t) (ms0_4 t) (hs0_4 t)
      (iblk m c 0 t) (iblk m c 1 t) (fun h => h0 ((hcond0_0 t).mp h)) ((hcond0_1 t).mpr h1) ((outsAt0 m c (t.val - 1) (Nat.lt_of_le_of_lt (Nat.sub_le _ _) t.isLt)).2.2))
    (congrArg₂ Prod.mk
      (out_C_3 c (grid0.coords t) (ms0_0 t) (hs0_0 t) (ms0_1 t) (hs0_1 t) (ms0_2 t) (hs0_2 t) (ms0_3 t) (hs0_3 t) (ms0_4 t) (hs0_4 t)
      (iblk m c 0 t) (iblk m c 1 t) (fun h => h0 ((hcond0_0 t).mp h)) ((hcond0_1 t).mpr h1) ((outsAt0 m c (t.val - 1) (Nat.lt_of_le_of_lt (Nat.sub_le _ _) t.isLt)).2.2))
      (out_C_4 c (grid0.coords t) (ms0_0 t) (hs0_0 t) (ms0_1 t) (hs0_1 t) (ms0_2 t) (hs0_2 t) (ms0_3 t) (hs0_3 t) (ms0_4 t) (hs0_4 t)
      (iblk m c 0 t) (iblk m c 1 t) (fun h => h0 ((hcond0_0 t).mp h)) ((hcond0_1 t).mpr h1) ((outsAt0 m c (t.val - 1) (Nat.lt_of_le_of_lt (Nat.sub_le _ _) t.isLt)).2.2))))

/-- What every point leaves in its first output block. -/
theorem outs_1 (c : Dev nD) (t : Fin cfg0.N) :
    (outsAt0 m c t.val t.isLt).1 = throughBlock (tokBlock (toks m c) (blkNo t)) (book m c) := by
  by_cases h0 : t.val % 8 = 0
  · rw [point_A m c t h0 (by omega)]
  · by_cases h1 : t.val % 8 = 7
    · rw [point_C m c t h0 h1]
    · rw [point_B m c t h0 h1]

/-- What every point leaves in its second output block. -/
theorem outs_2 (c : Dev nD) (t : Fin cfg0.N) :
    (outsAt0 m c t.val t.isLt).2.1 = codeBlock (tokBlock (toks m c) (blkNo t)) (book m c) := by
  by_cases h0 : t.val % 8 = 0
  · rw [point_A m c t h0 (by omega)]
  · by_cases h1 : t.val % 8 = 7
    · rw [point_C m c t h0 h1]
    · rw [point_B m c t h0 h1]

/-- The loss cell's running total after block `n`, from zero. -/
def total (X : FVec F S32768x64 .f32) (w : FVec F S1024x64 .f32) : (n : Nat) → n < 8 → Elt F .f32
  | 0, h => k0_pay8 (tokBlock X ⟨0, h⟩) w zeroCell
  | n + 1, h => k0_pay8 (tokBlock X ⟨n + 1, h⟩) w (total X w n (Nat.lt_of_succ_lt h))

/-- Before the last point the loss cell holds the running total. -/
theorem outs_3 (c : Dev nD) : ∀ (n : Nat) (h : n < cfg0.N) (h7 : n < 7),
    (outsAt0 m c n h).2.2 = fun _ => total (toks m c) (book m c) n (by omega)
  | 0, h, _ => congrArg (fun o => o.2.2) (point_A m c ⟨0, h⟩ (by dsimp only) (by dsimp only; omega))
  | n + 1, h, h7 => by
    have hp : n < cfg0.N := Nat.lt_of_succ_lt h
    refine (congrArg (fun o => o.2.2) (point_B m c ⟨n + 1, h⟩ (by dsimp only; omega) (by dsimp only; omega))).trans ?_
    refine funext fun _ => congrArg (k0_pay8 (tokBlock (toks m c) (blkNo ⟨n + 1, h⟩)) (book m c)) ?_
    exact congrFun (outs_3 c n hp (by omega)) cell

/-- The last point leaves the loss of the total there. -/
theorem outs_3_last (c : Dev nD) (h : 7 < cfg0.N) :
    (outsAt0 m c 7 h).2.2 = fun _ => k0_pay1 (total (toks m c) (book m c) 7 (by omega)) := by
  have hp : 6 < cfg0.N := Nat.lt_of_succ_lt h
  refine (congrArg (fun o => o.2.2) (point_C m c ⟨7, h⟩ (by dsimp only; omega) (by dsimp only))).trans ?_
  refine funext fun _ => congrArg (fun z => k0_pay1 (k0_pay8 (tokBlock (toks m c) (blkNo ⟨7, h⟩)) (book m c) z)) ?_
  exact congrFun (outs_3 m c 6 hp (by omega)) cell

/-- The block and row of a token. -/
abbrev blkOf (t : Fin 32768) : Fin 8 := ⟨t.val / 4096, by have := t.isLt; omega⟩
abbrev rowOf (t : Fin 32768) : Fin 4096 := ⟨t.val % 4096, by omega⟩

/-- The straight-through rows. -/
def arr2 (X : FVec F S32768x64 .f32) (w : FVec F S1024x64 .f32) : FVec F S32768x64 .f32 := fun i =>
  throughBlock (tokBlock X (blkOf (i 0))) w (ix2 (rowOf (i 0)) ⟨(i 1).val, (i 1).isLt⟩)

/-- The codes, block by block. -/
def arr3 (X : FVec F S32768x64 .f32) (w : FVec F S1024x64 .f32) : IVec S8x1x4096 32 := fun i =>
  codeBlock (tokBlock X ⟨(i 0).val, (i 0).isLt⟩) w (ix3 0 0 ⟨(i 2).val, (i 2).isLt⟩)

/-- The loss. -/
def arr4 (X : FVec F S32768x64 .f32) (w : FVec F S1024x64 .f32) : FVec F S1x1 .f32 := fun _ =>
  k0_pay1 (total X w 7 (by omega))

theorem final2 (c : Dev nD) : (dats m 0 c).arrAt 2 cfg0.N = arr2 (toks m c) (book m c) := by
  have hN : cfg0.N = 8 := N_0
  have hi : ∀ t : Fin cfg0.N, win0_2.index t 0 = t.val ∧ win0_2.index t 1 = 0 := fun t => by
    rcases fin_N0 t with rfl | rfl | rfl | rfl | rfl | rfl | rfl | rfl <;> decide
  refine (dats m 0 c).arrAt_eq_of_cover 2 (arr2 (toks m c) (book m c)) (fun t _ => ?_) fun i => ?_
  · show (cfg0.win 2).cut (grid0.coords t) ((dats m 0 c).after 2 t) = _
    rw [after0_2, outs_1]
    funext j
    rw [View.read_apply]
    show throughBlock (tokBlock (toks m c) (blkNo t)) (book m c) _ = arr2 (toks m c) (book m c) _
    have hj0 : (j 0).val < 4096 := (j 0).isLt
    have hj1 : (j 1).val < 64 := (j 1).isLt
    have e0 : (((cfg0.win 2).blk t).view.emb j 0).val = 4096 * t.val + (j 0).val := by
      show win0_2.index t 0 * 4096 + 1 * (j 0).val = _; rw [(hi t).1]; omega
    have e1 : (((cfg0.win 2).blk t).view.emb j 1).val = (j 1).val := by
      show win0_2.index t 1 * 64 + 1 * (j 1).val = _; rw [(hi t).2]; omega
    unfold arr2
    have eb : blkOf (((cfg0.win 2).blk t).view.emb j 0) = blkNo t := Fin.ext (by
      show (((cfg0.win 2).blk t).view.emb j 0).val / 4096 = t.val
      rw [e0]; omega)
    rw [eb]
    refine congrArg (throughBlock (tokBlock (toks m c) (blkNo t)) (book m c)) (funext fun a => Fin.ext ?_)
    match a with
    | ⟨0, _⟩ => show (j 0).val = (((cfg0.win 2).blk t).view.emb j 0).val % 4096; rw [e0]; omega
    | ⟨1, _⟩ => exact e1.symm
  · have h0 : (i 0 : Nat) < 32768 := (i 0).isLt
    have h1 : (i 1 : Nat) < 64 := (i 1).isLt
    let t : Fin cfg0.N := ⟨(i 0 : Nat) / 4096, by omega⟩
    refine ⟨t, flush0_2 t, ?_⟩
    show i ∈ ((View.whole main_v2_0).slice (win0_2.rect t)).set
    rw [View.set_slice_whole, Rect.mem_set_unit]
    intro a
    match a with
    | ⟨0, _⟩ =>
      show win0_2.index t 0 * 4096 ≤ (i 0 : Nat) ∧ (i 0 : Nat) < win0_2.index t 0 * 4096 + 4096
      rw [(hi t).1]; show (i 0 : Nat) / 4096 * 4096 ≤ _ ∧ _ < (i 0 : Nat) / 4096 * 4096 + 4096; omega
    | ⟨1, _⟩ =>
      show win0_2.index t 1 * 64 ≤ (i 1 : Nat) ∧ (i 1 : Nat) < win0_2.index t 1 * 64 + 64
      rw [(hi t).2]; omega

theorem final3 (c : Dev nD) : (dats m 0 c).arrAt 3 cfg0.N = arr3 (toks m c) (book m c) := by
  have hN : cfg0.N = 8 := N_0
  have hi : ∀ t : Fin cfg0.N, win0_3.index t 0 = t.val ∧ win0_3.index t 1 = 0 ∧ win0_3.index t 2 = 0 := fun t => by
    rcases fin_N0 t with rfl | rfl | rfl | rfl | rfl | rfl | rfl | rfl <;> decide
  refine (dats m 0 c).arrAt_eq_of_cover 3 (arr3 (toks m c) (book m c)) (fun t _ => ?_) fun i => ?_
  · show (cfg0.win 3).cut (grid0.coords t) ((dats m 0 c).after 3 t) = _
    rw [after0_3, outs_2]
    have hK : ∀ (K : IVec S1x1x4096 32) (G : IVec S8x1x4096 32), (∀ j, K j = G (((cfg0.win 3).blk t).view.emb j)) →
        (cfg0.win 3).cut (grid0.coords t) K = ((cfg0.win 3).blk t).view.read (Elt F) G := fun K G h => by
      funext j
      rw [View.read_apply]
      exact h j
    refine hK _ _ fun j => ?_
    have hj0 : (j 0).val < 1 := (j 0).isLt
    have hj1 : (j 1).val < 1 := (j 1).isLt
    have e0 : (((cfg0.win 3).blk t).view.emb j 0).val = t.val := by
      show win0_3.index t 0 * 1 + 1 * (j 0).val = _; rw [(hi t).1]; omega
    have e2 : (((cfg0.win 3).blk t).view.emb j 2).val = (j 2).val := by
      show win0_3.index t 2 * 4096 + 1 * (j 2).val = _; rw [(hi t).2.2]; omega
    unfold arr3
    have eb : (⟨(((cfg0.win 3).blk t).view.emb j 0).val, (((cfg0.win 3).blk t).view.emb j 0).isLt⟩ : Fin 8) = blkNo t := Fin.ext e0
    rw [eb]
    refine congrArg (codeBlock (tokBlock (toks m c) (blkNo t)) (book m c)) (funext fun a => Fin.ext ?_)
    match a with
    | ⟨0, _⟩ => show (j 0).val = 0; omega
    | ⟨1, _⟩ => show (j 1).val = 0; omega
    | ⟨2, _⟩ => exact e2.symm
  · have h0 : (i 0 : Nat) < 8 := (i 0).isLt
    have h1 : (i 1 : Nat) < 1 := (i 1).isLt
    have h2 : (i 2 : Nat) < 4096 := (i 2).isLt
    let t : Fin cfg0.N := ⟨(i 0 : Nat), by omega⟩
    refine ⟨t, flush0_3 t, ?_⟩
    show i ∈ ((View.whole main_v2_1).slice (win0_3.rect t)).set
    rw [View.set_slice_whole, Rect.mem_set_unit]
    intro a
    match a with
    | ⟨0, _⟩ =>
      show win0_3.index t 0 * 1 ≤ (i 0 : Nat) ∧ (i 0 : Nat) < win0_3.index t 0 * 1 + 1
      rw [(hi t).1]; show (i 0 : Nat) * 1 ≤ _ ∧ _ < (i 0 : Nat) * 1 + 1; omega
    | ⟨1, _⟩ =>
      show win0_3.index t 1 * 1 ≤ (i 1 : Nat) ∧ (i 1 : Nat) < win0_3.index t 1 * 1 + 1
      rw [(hi t).2.1]; omega
    | ⟨2, _⟩ =>
      show win0_3.index t 2 * 4096 ≤ (i 2 : Nat) ∧ (i 2 : Nat) < win0_3.index t 2 * 4096 + 4096
      rw [(hi t).2.2]; omega

theorem final4 (c : Dev nD) : (dats m 0 c).arrAt 4 cfg0.N = arr4 (toks m c) (book m c) := by
  have hN : cfg0.N = 8 := N_0
  refine (dats m 0 c).arrAt_eq_of_cover 4 (arr4 (toks m c) (book m c)) (fun t hf => ?_) fun i => ?_
  · have h7 : t.val = 7 := by have := (flush0_4 t).mp hf; have := t.isLt; omega
    obtain rfl : t = t0_7 := Fin.ext h7
    show (cfg0.win 4).cut (grid0.coords t0_7) ((dats m 0 c).after 4 t0_7) = _
    rw [after0_4]
    have h := outs_3_last m c t0_7.isLt
    show (cfg0.win 4).cut (grid0.coords t0_7) ((outsAt0 m c 7 t0_7.isLt).2.2) = _
    rw [h]
    have hz : ∀ z : Elt F .f32, (cfg0.win 4).cut (grid0.coords t0_7) (fun _ => z) =
        ((cfg0.win 4).blk t0_7).view.read (Elt F) (fun _ => z) := fun z => by
      funext j
      rw [View.read_apply]
      rfl
    exact hz _
  · have h0 : (i 0 : Nat) < 1 := (i 0).isLt
    have h1 : (i 1 : Nat) < 1 := (i 1).isLt
    refine ⟨t0_7, (flush0_4 t0_7).mpr rfl, ?_⟩
    show i ∈ ((View.whole main_v2_2).slice (win0_4.rect t0_7)).set
    rw [View.set_slice_whole, Rect.mem_set_unit]
    intro a
    match a with
    | ⟨0, _⟩ =>
      show win0_4.index t0_7 0 * 1 ≤ (i 0 : Nat) ∧ (i 0 : Nat) < win0_4.index t0_7 0 * 1 + 1
      rw [show win0_4.index t0_7 0 = 0 from by decide]; omega
    | ⟨1, _⟩ =>
      show win0_4.index t0_7 1 * 1 ≤ (i 1 : Nat) ∧ (i 1 : Nat) < win0_4.index t0_7 1 * 1 + 1
      rw [show win0_4.index t0_7 1 = 0 from by decide]; omega

/-! ## The whole program -/

/-- The input as a table of tokens: the channels last, and the other axes in a row. -/
def flat (x : FVec F S4x64x8x32x32 .f32) : FVec F S32768x64 .f32 :=
  shapeCast S32768x64 (transpose S4x8x32x32x64 [0, 2, 3, 4, 1] x transposes_S4x64x8x32x32_S4x8x32x32x64_0_2_3_4_1)
    shapeCasts_S4x8x32x32x64_S32768x64

/-- The straight-through result in the input's layout. -/
def through (x : FVec F S4x64x8x32x32 .f32) (w : FVec F S1024x64 .f32) : FVec F S4x64x8x32x32 .f32 :=
  transpose S4x64x8x32x32 [0, 4, 1, 2, 3]
    (shapeCast S4x8x32x32x64 (arr2 (flat x) w) shapeCasts_S32768x64_S4x8x32x32x64)
    transposes_S4x8x32x32x64_S4x64x8x32x32_0_4_1_2_3

/-- The codes by position. -/
def codeMap (x : FVec F S4x64x8x32x32 .f32) (w : FVec F S1024x64 .f32) : IVec S4x8x32x32 32 :=
  shapeCast S4x8x32x32 (arr3 (flat x) w) shapeCasts_S8x1x4096_S4x8x32x32

/-- The loss as a scalar. -/
def loss (x : FVec F S4x64x8x32x32 .f32) (w : FVec F S1024x64 .f32) : FVec F S_ .f32 :=
  shapeCast S_ (arr4 (flat x) w) shapeCasts_S1x1_S_

/-- The region finds the flattened input. -/
theorem toks_eq (c : Dev nD) : toks m c = flat (m ((c : Thread nD τ).loc main_arg0)) := by
  show StableHlo.after (List.flatten [hostOps0]) (fun b => m (c, b)) (Proc.devRef .tc main_v1) = _
  simp only [List.flatten_cons, List.flatten_nil, List.append_nil, hostOps0]
  after_results_simp <;> rfl

/-- And the code book as launched. -/
theorem book_eq (c : Dev nD) : book m c = m ((c : Thread nD τ).loc main_arg1) := V_main_arg1 m c

section Tail

open StableHlo

variable (V : Valuation τ sig (Elt F))

theorem tail_v4 : after hostOps1 V (Proc.devRef .tc main_v4) = transpose S4x64x8x32x32 [0, 4, 1, 2, 3]
    (shapeCast S4x8x32x32x64 (V (Proc.devRef .tc main_v2_0)) shapeCasts_S32768x64_S4x8x32x32x64)
    transposes_S4x8x32x32x64_S4x64x8x32x32_0_4_1_2_3 := by
  simp only [hostOps1]; after_results_simp <;> rfl

theorem tail_v5 : after hostOps1 V (Proc.devRef .tc main_v5) =
    shapeCast S4x8x32x32 (V (Proc.devRef .tc main_v2_1)) shapeCasts_S8x1x4096_S4x8x32x32 := by
  simp only [hostOps1]; after_results_simp <;> rfl

theorem tail_v6 : after hostOps1 V (Proc.devRef .tc main_v6) =
    shapeCast S_ (V (Proc.devRef .tc main_v2_2)) shapeCasts_S1x1_S_ := by
  simp only [hostOps1]; after_results_simp <;> rfl

end Tail

/-- The arrays as the operations after the region find them. -/
abbrev left (c : Dev nD) := Pipeline.withArrays (cfgs 0).spec c (V0 m c) fun w => (dats m 0 c).arrAt w (cfgs 0).N

theorem left_2 (c : Dev nD) : left m c (Proc.devRef .tc main_v2_0) = arr2 (toks m c) (book m c) :=
  (Pipeline.withArrays_arr spec0 (by decide) c (V0 m c) _ 2).trans (final2 m c)

theorem left_3 (c : Dev nD) : left m c (Proc.devRef .tc main_v2_1) = arr3 (toks m c) (book m c) :=
  (Pipeline.withArrays_arr spec0 (by decide) c (V0 m c) _ 3).trans (final3 m c)

theorem left_4 (c : Dev nD) : left m c (Proc.devRef .tc main_v2_2) = arr4 (toks m c) (book m c) :=
  (Pipeline.withArrays_arr spec0 (by decide) c (V0 m c) _ 4).trans (final4 m c)

/-- Every run of the kernel's program ends with its three results at `through`, `loss` and `codeMap` of the arguments,
    and the arguments as they were. -/
theorem run : θ_run defs (onTc main) (s₀ m ρ) (fun r => ∀ c : Dev nD,
    r.2.mem ((c : Thread nD τ).loc main_v4) = through (m ((c : Thread nD τ).loc main_arg0)) (m ((c : Thread nD τ).loc main_arg1)) ∧
    r.2.mem ((c : Thread nD τ).loc main_v6) = loss (m ((c : Thread nD τ).loc main_arg0)) (m ((c : Thread nD τ).loc main_arg1)) ∧
    r.2.mem ((c : Thread nD τ).loc main_v5) = codeMap (m ((c : Thread nD τ).loc main_arg0)) (m ((c : Thread nD τ).loc main_arg1)) ∧
    r.2.mem ((c : Thread nD τ).loc main_arg0) = m ((c : Thread nD τ).loc main_arg0) ∧
    r.2.mem ((c : Thread nD τ).loc main_arg1) = m ((c : Thread nD τ).loc main_arg1)) := by
  refine (run_main m ρ).mono fun r h c => ?_
  refine ⟨((h c).2 main_v4 (Pipeline.mem_restRefs_of main_v4 (by decide) (by decide))).trans ?_,
    ((h c).2 main_v6 (Pipeline.mem_restRefs_of main_v6 (by decide) (by decide))).trans ?_,
    ((h c).2 main_v5 (Pipeline.mem_restRefs_of main_v5 (by decide) (by decide))).trans ?_,
    ((h c).2 main_arg0 (Pipeline.mem_restRefs_of main_arg0 (by decide) (by decide))).trans (W_main_arg0 m (dats m) c),
    ((h c).1 1).trans (((dats m 0 c).arrAt_in 1 rfl _).trans ((A_eq m c 1).trans (V_main_arg1 m c)))⟩
  · refine (tail_v4 (left m c)).trans ?_
    rw [left_2, toks_eq, book_eq]; rfl
  · refine (tail_v6 (left m c)).trans ?_
    rw [left_4, toks_eq, book_eq]; rfl
  · refine (tail_v5 (left m c)).trans ?_
    rw [left_3, toks_eq, book_eq]; rfl

end Cert.Vq.Kern

end
-- ==== Proof.Spec.lean ====
/- The mathematics of the code book lookup, over the extended reals and free of both programs: the expanded squared
   distance between a token and a code, the lowest index attaining a row's least entry, the least entry as a running
   minimum, the one-hot product that fetches a row, and, for finite entries, the expansion of the squared distance. -/
module

public import Mathlib.Data.EReal.Operations
public import Mathlib.Algebra.BigOperators.Fin
public import Mathlib.Algebra.BigOperators.Ring.Finset
public import Mathlib.Data.Finset.Fold
public import Mathlib.Tactic.Ring

@[expose] public section

noncomputable section

namespace Cert.Vq

/-- The squared distance of token `a` to code `b`, expanded as both programs compute it. -/
def D (a b : Fin 64 → EReal) : EReal := ((∑ c, a c * a c) + ∑ c, b c * b c) - 2 * ∑ c, a c * b c

/-- Some index attains the least entry of `d` and every lower index holds more. -/
theorem exists_least (d : Fin 1024 → EReal) : ∃ k, (∀ l, d k ≤ d l) ∧ ∀ l, l < k → d k < d l := by
  obtain ⟨k₀, -, h₀⟩ := Finset.exists_min_image Finset.univ d ⟨0, Finset.mem_univ _⟩
  have hne : (Finset.univ.filter fun k => ∀ l, d k ≤ d l).Nonempty :=
    ⟨k₀, Finset.mem_filter.mpr ⟨Finset.mem_univ _, fun l => h₀ l (Finset.mem_univ _)⟩⟩
  refine ⟨Finset.min' _ hne, (Finset.mem_filter.mp (Finset.min'_mem _ hne)).2, fun l hl => ?_⟩
  by_contra hc
  have hmin := (Finset.mem_filter.mp (Finset.min'_mem _ hne)).2
  have : Finset.min' _ hne ≤ l := Finset.min'_le _ _
    (Finset.mem_filter.mpr ⟨Finset.mem_univ _, fun l' => (not_lt.mp hc).trans (hmin l')⟩)
  exact absurd hl (not_lt.mpr this)

/-- The lowest index attaining the least entry of `d`. -/
def least (d : Fin 1024 → EReal) : Fin 1024 := (exists_least d).choose

theorem least_le (d : Fin 1024 → EReal) (l : Fin 1024) : d (least d) ≤ d l := (exists_least d).choose_spec.1 l

theorem least_lt (d : Fin 1024 → EReal) (l : Fin 1024) (h : l < least d) : d (least d) < d l :=
  (exists_least d).choose_spec.2 l h

/-- An index attaining the least entry is no lower than `least`. -/
theorem least_le_of_attains (d : Fin 1024 → EReal) (k : Fin 1024) (h : d k ≤ d (least d)) : least d ≤ k := by
  by_contra hc
  exact absurd (least_lt d k (not_le.mp hc)) (not_lt.mpr h)

/-- The two properties of `least` determine it. -/
theorem eq_least (d : Fin 1024 → EReal) (k : Fin 1024) (h : ∀ l, d k ≤ d l) (h' : ∀ l, d k = d l → k ≤ l) :
    k = least d :=
  le_antisymm (h' _ (le_antisymm (h _) (least_le d k))) (least_le_of_attains d k (h _))

/-- The running minimum from `⊤` is the least entry. -/
theorem fold_min (d : Fin 1024 → EReal) : (Finset.univ : Finset (Fin 1024)).fold min ⊤ d = d (least d) :=
  le_antisymm (Finset.fold_min_le _ |>.mpr (.inr ⟨least d, Finset.mem_univ _, le_rfl⟩))
    (Finset.le_fold_min _ |>.mpr ⟨le_top, fun l _ => least_le d l⟩)

/-- The one-hot row of `k₀`. -/
def hot (k₀ k : Fin 1024) : EReal := if k = k₀ then 1 else 0

/-- A one-hot row picks its entry, whatever the other entries are. -/
theorem sum_hot (k₀ : Fin 1024) (w : Fin 1024 → EReal) : ∑ k, hot k₀ k * w k = w k₀ := by
  rw [Finset.sum_eq_single k₀]
  · rw [hot, if_pos rfl, one_mul]
  · intro k _ hk; rw [hot, if_neg hk, zero_mul]
  · intro h; exact absurd (Finset.mem_univ _) h

/-- An extended real is finite. -/
def IsFin (a : EReal) : Prop := ∃ r : ℝ, a = (r : EReal)

theorem IsFin.sub_self {a : EReal} (h : IsFin a) : a - a = 0 := by
  obtain ⟨r, rfl⟩ := h
  rw [← EReal.coe_sub, _root_.sub_self, EReal.coe_zero]

/-- Splitting finite entries into themselves and a zero remainder picks the same entry. -/
theorem sum_hot_split (k₀ : Fin 1024) (w : Fin 1024 → EReal) (hw : ∀ k, IsFin (w k)) :
    (∑ k, hot k₀ k * w k) + ∑ k, hot k₀ k * (w k - w k) = w k₀ := by
  rw [sum_hot, sum_hot k₀ fun k => w k - w k, (hw k₀).sub_self, add_zero]

/-- For finite entries the expanded distance is the sum of the squared differences. -/
theorem D_eq (a b : Fin 64 → EReal) (ha : ∀ c, IsFin (a c)) (hb : ∀ c, IsFin (b c)) :
    D a b = ∑ c, (b c - a c) * (b c - a c) := by
  choose r hr using ha
  choose s hs using hb
  obtain rfl : a = fun c => (r c : EReal) := funext hr
  obtain rfl : b = fun c => (s c : EReal) := funext hs
  have coe_sum : ∀ f : Fin 64 → ℝ, ∑ c, (f c : EReal) = ((∑ c, f c : ℝ) : EReal) := fun f => by
    induction (Finset.univ : Finset (Fin 64)) using Finset.cons_induction with
    | empty => simp
    | cons a s ha ih => rw [Finset.sum_cons, Finset.sum_cons, ih, EReal.coe_add]
  unfold D
  have h2 : (2 : EReal) = ((2 : ℝ) : EReal) := rfl
  simp only [← EReal.coe_mul, ← EReal.coe_sub, coe_sum, h2, ← EReal.coe_add]
  congr 1
  rw [Finset.mul_sum, ← Finset.sum_add_distrib, ← Finset.sum_sub_distrib]
  exact Finset.sum_congr rfl fun c _ => by ring

end Cert.Vq

end
-- ==== Proof.KPay.lean ====
/- The kernel's block computations at the extended reals, read at an index: a block's distances are `D` of its tokens and
   the codes, its row minima are the least of them, its codes the lowest index attaining them, its straight-through rows
   the token plus the step to the nearest code, and what it adds to the loss cell the sum of its least distances. -/
module

public import proofs.«01_k».proof.Proof.KBlock
public import proofs.«01_k».proof.Proof.Spec
public import Idealize.ShloMosaic.Lib.ValueIdx
public import Idealize.ShloMosaic.PureOps.Ideal.Laws

@[expose] public section

noncomputable section

namespace Cert.Vq.Kern

open Cert.KernelIdeal Cert.KernelIdeal.Gen Idealize.ShloMosaic Idealize.ShloMosaic.TcCoe Idealize.SL.Sem
open Idealize.ShloMosaic.ValueIdx

/-- Row `r` of a matrix of 64 columns. -/
abbrev row {n : Nat} (x : (⟨2, ![n, 64]⟩ : Shape).Idx → EReal) (r : Fin n) : Fin 64 → EReal := fun c => x (ix2 r c)

variable (x : FVec Ideal S4096x64 .f32) (w : FVec Ideal S1024x64 .f32)

/-- The block's copy of its tokens is its tokens. -/
theorem pay4_eq : k0_pay4 x = x := shapeCast_self _ _

/-- The squared lengths of a matrix's rows. -/
theorem sumsq_tokens (r : Fin 4096) :
    multiReduction .add [1] S4096 (mulf x x) 0x00000000#32 reduces_S4096x64_S4096 (.inl rfl) rfl (ix1 r)
      = ∑ c, row x r c * row x r c := by
  refine (Ideal.multiReduction_add_single _ _ _ _ _ _).trans ?_
  refine Finset.sum_congr rfl fun c _ => ?_
  have h : reduces_S4096x64_S4096.lift (ix1 r) c = ix2 r c := funext fun a => Fin.ext (by
    match a with
    | ⟨0, _⟩ => rfl
    | ⟨1, _⟩ => rfl)
  rw [h]; rfl

theorem sumsq_codes (k : Fin 1024) :
    multiReduction .add [1] S1024 (mulf w w) 0x00000000#32 reduces_S1024x64_S1024 (.inl rfl) rfl (ix1 k)
      = ∑ c, row w k c * row w k c := by
  refine (Ideal.multiReduction_add_single _ _ _ _ _ _).trans ?_
  refine Finset.sum_congr rfl fun c _ => ?_
  have h : reduces_S1024x64_S1024.lift (ix1 k) c = ix2 k c := funext fun a => Fin.ext (by
    match a with
    | ⟨0, _⟩ => rfl
    | ⟨1, _⟩ => rfl)
  rw [h]; rfl

/-- The inner product of a token and a code. -/
theorem inner_at (r : Fin 4096) (k : Fin 1024) :
    matmul dot_S4096x64_S1024x64_S4096x1024_1_1_0_0_n_n none x w (constant S4096x1024 .f32 0x00000000#32) (ix2 r k)
      = ∑ c, row x r c * row w k c := by
  simp only [matmul]
  rw [Ideal.matmul_constant_zero_apply,
    ← Equiv.sum_comp (contrEquiv1 dot_S4096x64_S1024x64_S4096x1024_1_1_0_0_n_n 64 rfl rfl).symm]
  refine Finset.sum_congr rfl fun c _ => ?_
  congr 2
  · funext a; apply Fin.ext
    match a with
    | ⟨0, _⟩ => rfl
    | ⟨1, _⟩ => rfl
  · funext a; apply Fin.ext
    match a with
    | ⟨0, _⟩ => rfl
    | ⟨1, _⟩ => rfl

/-- A column read back from its vector. -/
theorem column_at {α : Type} (v : S4096.Idx → α) (r : Fin 4096) (u : Fin 1) :
    shapeCast S4096x1 v shapeCasts_S4096_S4096x1 (ix2 r u) = v (ix1 r) :=
  shapeCast_apply _ _ _ _ (by
    rewrite [Shape.rowMajor_val_one, Shape.rowMajor_val_two]
    have := u.isLt
    show r.val = r.val * 1 + u.val
    omega)

/-- The distance of token `r` to code `k`. -/
theorem pay5_at (r : Fin 4096) (k : Fin 1024) : (k0_pay5 (F := Ideal) x w (ix2 r k) : EReal) = D (row x r) (row w k) := by
  unfold k0_pay5
  rw [pay4_eq]
  dsimp only
  rw [subf_apply, addf_apply, mulf_apply, broadcast_apply, inner_at]
  rw [broadcastTo_apply _ broadcasts_S4096x1_S4096x1024 (ix2 r k) (ix2 r 0) (fun a => by
    match a with
    | ⟨0, _⟩ => rfl
    | ⟨1, _⟩ => rfl)]
  rw [broadcastTo_apply _ broadcasts_S1x1024_S4096x1024 (ix2 r k) (ix2 0 k) (fun a => by
    match a with
    | ⟨0, _⟩ => rfl
    | ⟨1, _⟩ => rfl)]
  rw [column_at, sumsq_tokens]
  rw [shapeCast_apply _ shapeCasts_S1024_S1x1024 (ix2 0 k) (ix1 k) (by
    rewrite [Shape.rowMajor_val_one, Shape.rowMajor_val_two]
    show k.val = 0 * 1024 + k.val
    omega), sumsq_codes]
  have h2 : (Scalar.ofBits .f32 0x40000000#32 : Ideal .f32) = (2 : EReal) := by
    show Ideal.ofBits .f32 0x40000000#32 = 2
    simp [Ideal.ofBits, Ideal.ieee, -EReal.coe_mul]; norm_num; rfl
  rw [h2]; rfl

/-- The distances of token `r` to the codes. -/
abbrev dists (r : Fin 4096) : Fin 1024 → EReal := fun k => D (row x r) (row w k)

/-- The least distance of token `r`. -/
theorem pay6_at (r : Fin 4096) (u : Fin 1) :
    (k0_pay6 (F := Ideal) x w (ix2 r u) : EReal) = dists x w r (least (dists x w r)) := by
  unfold k0_pay6
  dsimp only
  rw [column_at]
  refine (multiReduction_minimumf_eq_fold _ _ _ _ _ _).trans ?_
  refine (Shape.Reduces.fold_filter_drop_single _ _ _ _ _).trans ?_
  refine Eq.trans ?_ (fold_min (dists x w r))
  have ht : (FloatOps.ofBits .f32 0x7F800000#32 : Ideal .f32) = (⊤ : EReal) := by
    show Ideal.ofBits .f32 0x7F800000#32 = ⊤
    simp [Ideal.ofBits, Ideal.ieee]
  rw [ht]
  refine Finset.fold_congr fun k _ => ?_
  have h : reduces_S4096x1024_S4096.lift (ix1 r) k = ix2 r k := funext fun a => Fin.ext (by
    match a with
    | ⟨0, _⟩ => rfl
    | ⟨1, _⟩ => rfl)
  exact (congrArg (k0_pay5 (F := Ideal) x w) h).trans (pay5_at x w r k)

/-- A running signed minimum is its start or one of its terms, and is no more than any of them. -/
theorem fold_minsi {ι : Type} [DecidableEq ι] (b : BitVec 32) (f : ι → BitVec 32) (s : Finset ι) :
    (s.fold IntOp.minsi b f = b ∨ ∃ i ∈ s, s.fold IntOp.minsi b f = f i)
      ∧ (s.fold IntOp.minsi b f).toInt ≤ b.toInt ∧ ∀ i ∈ s, (s.fold IntOp.minsi b f).toInt ≤ (f i).toInt := by
  induction s using Finset.induction_on with
  | empty => exact ⟨.inl rfl, le_rfl, fun i hi => absurd hi (Finset.notMem_empty _)⟩
  | insert a s ha ih =>
    obtain ⟨h1, h2, h3⟩ := ih
    rw [Finset.fold_insert ha]
    generalize s.fold IntOp.minsi b f = m at h1 h2 h3 ⊢
    unfold IntOp.minsi
    by_cases hlt : (f a).slt m
    · rw [if_pos hlt]
      have hl := BitVec.slt_iff_toInt_lt.mp hlt
      refine ⟨.inr ⟨a, Finset.mem_insert_self _ _, rfl⟩, by omega, fun i hi => ?_⟩
      rcases Finset.mem_insert.mp hi with rfl | hi
      · exact le_rfl
      · have := h3 i hi; omega
    · rw [if_neg hlt]
      have hl : ¬ _ := fun h => hlt (BitVec.slt_iff_toInt_lt.mpr h)
      refine ⟨h1.imp id fun ⟨i, hi, e⟩ => ⟨i, Finset.mem_insert_of_mem hi, e⟩, h2, fun i hi => ?_⟩
      rcases Finset.mem_insert.mp hi with rfl | hi
      · omega
      · exact h3 i hi

/-- A code's number as a word reads back as the number. -/
theorem toInt_code (k : Fin 1024) : (BitVec.ofNat 32 k.val).toInt = k.val := by
  have := k.isLt
  rw [BitVec.toInt_eq_toNat_cond, BitVec.toNat_ofNat, Nat.mod_eq_of_lt (by omega), if_pos (by omega)]

/-- The code of token `r` is the lowest index attaining its least distance. -/
theorem pay7_at (r : Fin 4096) :
    k0_pay7 (F := Ideal) x w (ix1 r) = BitVec.ofNat 32 (least (dists x w r)).val := by
  unfold k0_pay7
  dsimp only
  refine (multiReductionI_eq_fold _ _ _ _ _ _).trans ?_
  refine (Shape.Reduces.fold_filter_drop_single _ _ _ _ _).trans ?_
  set d := dists x w r with hd
  have hterm : ∀ k : Fin 1024,
      select (cmpf .oeq (k0_pay5 (F := Ideal) x w) (broadcastTo S4096x1024 (k0_pay6 x w) broadcasts_S4096x1_S4096x1024))
        (iota .tc S4096x1024 32 [1] iota_S4096x1024_d1_w32) (broadcast S4096x1024 1024#32) (ix2 r k)
      = if d k = d (least d) then BitVec.ofNat 32 k.val else 1024#32 := fun k => by
    rw [select_apply, cmpf_apply, pay5_at]
    rw [broadcastTo_apply _ broadcasts_S4096x1_S4096x1024 (ix2 r k) (ix2 r 0) (fun a => by
      match a with
      | ⟨0, _⟩ => rfl
      | ⟨1, _⟩ => rfl), pay6_at, iota_single_apply, broadcast_apply, Ideal.cmpf_def]
    unfold Ideal.cmp
    dsimp only
    by_cases he : d k = d (least d)
    · rw [if_pos he, show decide (D (row x r) (row w k) = d (least d)) = true from decide_eq_true he]; rfl
    · rw [if_neg he, show decide (D (row x r) (row w k) = d (least d)) = false from decide_eq_false he]; rfl
  refine (Finset.fold_congr (g := fun k : Fin 1024 => if d k = d (least d) then BitVec.ofNat 32 k.val else 1024#32)
    fun k _ => ?_).trans ?_
  · have h : reduces_S4096x1024_S4096.lift (ix1 r) k = ix2 r k := funext fun a => Fin.ext (by
      match a with
      | ⟨0, _⟩ => rfl
      | ⟨1, _⟩ => rfl)
    exact (congrArg _ h).trans (hterm k)
  obtain ⟨h1, h2, h3⟩ := fold_minsi (2147483647#32) (fun k : Fin 1024 => if d k = d (least d) then BitVec.ofNat 32 k.val else 1024#32) Finset.univ
  show (Finset.univ : Finset (Fin 1024)).fold IntOp.minsi _ _ = _
  have hb := h3 (least d) (Finset.mem_univ _)
  rw [if_pos rfl, toInt_code] at hb
  have hlt := (least d).isLt
  rcases h1 with h1 | ⟨k, -, h1⟩
  · rw [h1] at hb
    have : (2147483647#32).toInt = 2147483647 := by decide
    omega
  · rw [h1] at hb ⊢
    by_cases he : d k = d (least d)
    · rw [if_pos he] at hb ⊢
      rw [toInt_code] at hb
      have := least_le_of_attains d k he.le
      rw [show k = least d from le_antisymm (Fin.le_def.mpr (by omega)) this]
    · rw [if_neg he] at hb
      have : (1024#32).toInt = 1024 := by decide
      omega

/-- What a block adds to the loss cell: the sum of its least distances. -/
theorem pay8_at (z : EReal) :
    (k0_pay8 (F := Ideal) x w z : EReal) = z + ∑ r : Fin 4096, dists x w r (least (dists x w r)) := by
  unfold k0_pay8
  dsimp only
  refine congrArg (z + ·) ?_
  unfold extractAt
  rw [shapeCast_apply _ shapeCasts_S1_S1x1x1 _ (ix1 0) (by
    rewrite [Shape.rowMajor_val_one, Shape.rowMajor_val_three]
    rfl)]
  refine (Ideal.multiReduction_add_total _ _ _ (fun b => by match b with | ⟨0, _⟩ => rfl) _ _ _).trans ?_
  refine Fintype.sum_equiv (⟨fun i => (i 1 : Fin 4096), fun r => ix3 0 r 0, fun i => ?_, fun r => rfl⟩ : S1x4096x1.Idx ≃ Fin 4096) _ _ fun i => ?_
  · funext a
    match a with
    | ⟨0, _⟩ => exact (Subsingleton.elim (α := Fin 1) _ _)
    | ⟨1, _⟩ => rfl
    | ⟨2, _⟩ => exact (Subsingleton.elim (α := Fin 1) _ _)
  · rw [shapeCast_apply _ shapeCasts_S4096x1_S1x4096x1 i (ix2 (i 1) 0) (by
      rewrite [Shape.rowMajor_val_two, Shape.rowMajor_val_three]
      have h0 : (i 0).val < 1 := (i 0).isLt
      have h2 : (i 2).val < 1 := (i 2).isLt
      show (i 1).val * 1 + 0 = ((i 0).val * 4096 + (i 1).val) * 1 + (i 2).val
      omega)]
    exact pay6_at x w _ _

/-- The one-hot product fetches rows: entry `(r, c)` is the sum over the codes of the one-hot entry times theirs. -/
theorem fetch_at (h : FVec Ideal S4096x1024 .bf16) (y : FVec Ideal S1024x64 .bf16) (r : Fin 4096) (c : Fin 64) :
    matmul dot_S4096x1024_S1024x64_S4096x64_1_0_0_1_n_n none h y (constant S4096x64 .f32 0x00000000#32) (ix2 r c)
      = ∑ k : Fin 1024, (h (ix2 r k) : EReal) * y (ix2 k c) := by
  simp only [matmul]
  rw [Ideal.matmul_constant_zero_apply,
    ← Equiv.sum_comp (contrEquiv1 dot_S4096x1024_S1024x64_S4096x64_1_0_0_1_n_n 1024 rfl rfl).symm]
  refine Finset.sum_congr rfl fun k _ => ?_
  congr 2
  · funext a; apply Fin.ext
    match a with
    | ⟨0, _⟩ => rfl
    | ⟨1, _⟩ => rfl
  · funext a; apply Fin.ext
    match a with
    | ⟨0, _⟩ => rfl
    | ⟨1, _⟩ => rfl

/-- The straight-through block: the token plus the step from it to its nearest code. -/
theorem through_at (hw : ∀ i, IsFin (w i)) (r : Fin 4096) (c : Fin 64) :
    (throughBlock (F := Ideal) x w (ix2 r c) : EReal)
      = x (ix2 r c) + (w (ix2 (least (dists x w r)) c) - x (ix2 r c)) := by
  unfold throughBlock k0_pay2
  dsimp only
  rw [pay4_eq, addf_apply, subf_apply, addf_apply, fetch_at, fetch_at]
  have hhot : ∀ k : Fin 1024,
      (truncf (F := Ideal) .bf16 (sitofp .f32 (extui 32 (cmpi .eq (iota .tc S4096x1024 32 [1] iota_S4096x1024_d1_w32)
        (broadcastTo S4096x1024 (shapeCast S4096x1 (k0_pay7 (F := Ideal) x w) shapeCasts_S4096_S4096x1) broadcasts_S4096x1_S4096x1024))
        natLt_1_32)) bitsLt_bf16_f32 (ix2 r k) : EReal) = hot (least (dists x w r)) k := fun k => by
    rw [truncf_apply, sitofp_apply, extui_apply]
    have e2 : broadcastTo S4096x1024 (shapeCast S4096x1 (k0_pay7 (F := Ideal) x w) shapeCasts_S4096_S4096x1)
        broadcasts_S4096x1_S4096x1024 (ix2 r k) = BitVec.ofNat 32 (least (dists x w r)).val := by
      rw [broadcastTo_apply _ broadcasts_S4096x1_S4096x1024 (ix2 r k) (ix2 r 0) (fun a => by
        match a with
        | ⟨0, _⟩ => rfl
        | ⟨1, _⟩ => rfl), column_at, pay7_at]
    have e1 : iota .tc S4096x1024 32 [1] iota_S4096x1024_d1_w32 (ix2 r k) = BitVec.ofNat 32 k.val := iota_single_apply _ _ _ _ _ _
    rw [show cmpi .eq (iota .tc S4096x1024 32 [1] iota_S4096x1024_d1_w32) (broadcastTo S4096x1024 (shapeCast S4096x1
        (k0_pay7 (F := Ideal) x w) shapeCasts_S4096_S4096x1) broadcasts_S4096x1_S4096x1024) (ix2 r k)
      = IntOp.cmpi .eq (BitVec.ofNat 32 k.val) (BitVec.ofNat 32 (least (dists x w r)).val) from congrArg₂ (IntOp.cmpi .eq) e1 e2]
    clear e1 e2
    unfold hot
    unfold IntOp.cmpi
    dsimp only
    by_cases he : k = least (dists x w r)
    · rw [if_pos he, he, beq_self_eq_true]
      show (((1 : ℤ) : ℝ) : EReal) = 1
      norm_num
    · have hne : (BitVec.ofNat 32 k.val == BitVec.ofNat 32 (least (dists x w r)).val) = false :=
        beq_false_of_ne fun h => he (Fin.ext (by
          have := congrArg BitVec.toInt h
          rw [toInt_code, toInt_code] at this
          exact_mod_cast this))
      rw [if_neg he, hne]
      show (((0 : ℤ) : ℝ) : EReal) = 0
      norm_num
  simp only [hhot]
  refine congrArg (fun q : EReal => x (ix2 r c) + (q - x (ix2 r c))) ?_
  exact sum_hot_split (least (dists x w r)) (fun k => w (ix2 k c)) fun k => hw _

/-- The last point's loss from the total: the mean plus a quarter of the mean. -/
theorem pay1_eq (z : EReal) :
    (k0_pay1 (F := Ideal) z : EReal) = Ideal.div z (Ideal.ofBits .f32 0x4A000000#32)
      + Ideal.ofBits .f32 0x3E800000#32 * Ideal.div z (Ideal.ofBits .f32 0x4A000000#32) := rfl

/-- The block of codes read at an index. -/
theorem pay3_at (v : IVec S4096 32) (r : Fin 4096) : k0_pay3 v (ix3 0 0 r) = v (ix1 r) :=
  shapeCast_apply _ _ _ _ (by
    rewrite [Shape.rowMajor_val_one, Shape.rowMajor_val_three]
    show r.val = (0 * 1 + 0) * 4096 + r.val
    omega)

end Cert.Vq.Kern

end
-- ==== Proof.RefRun.lean ====
/- The reference, run. `ops` lists its host operations with the called functions' operations standing in their calls'
   places; `run` says that every execution of it terminates with the three results at the values named below, as
   functions of the two arguments, and with the arguments unchanged. The values, in the order the program makes them:
   `flat` (the channels moved last, a row per token), `dist` (the squared distance of every token to every code),
   `codes` (the nearest code of every token), `rowsOf`/`taken` (that code's vector, fetched by `jnp.take`), `quant`
   (put back in the input's layout), `through` (the straight-through result) and `loss`. -/
module

public import proofs.«01_k».proof.Proof.Gen.ReferenceIdeal
public import Idealize.ShloMosaic.Lib.StableHlo.Run
public import Idealize.ShloMosaic.Lib.Quiescent

@[expose] public section

noncomputable section

namespace Cert.Vq.Ref

open Cert.ReferenceIdeal Cert.ReferenceIdeal.Gen Idealize.ShloMosaic Idealize.ShloMosaic.TcCoe Idealize.SL.Sem Idealize.ShloMosaic.StableHlo

variable {F : FTy → Type} [FloatOps F]

/-- The input with its channels last, one row per token. -/
def flat (x : FVec F S4x64x8x32x32 .f32) : FVec F S32768x64 .f32 :=
  shapeCast _ (transpose S4x8x32x32x64 [0, 2, 3, 4, 1] x transposes_S4x64x8x32x32_S4x8x32x32x64_0_2_3_4_1) shapeCasts_S4x8x32x32x64_S32768x64

/-- The squared length of every token, as a column. -/
def tokenSq (x : FVec F S4x64x8x32x32 .f32) : FVec F S32768x1 .f32 :=
  broadcastInDim S32768x1 ![0] bcast_S32768_S32768x1_0
    (Host.reduceAdd (mulf (flat x) (flat x)) (constant S_ .f32 0x00000000#32) reducesTo_S32768x64_S32768_d1 h_S_)

/-- The squared length of every code, as a row. -/
def codeSq (w : FVec F S1024x64 .f32) : FVec F S1x1024 .f32 :=
  broadcastInDim S1x1024 ![1] bcast_S1024_S1x1024_1
    (Host.reduceAdd (mulf w w) (constant S_ .f32 0x00000000#32) reducesTo_S1024x64_S1024_d1 h_S_)

/-- The inner product of every token with every code. -/
def inner (x : FVec F S4x64x8x32x32 .f32) (w : FVec F S1024x64 .f32) : FVec F S32768x1024 .f32 :=
  Host.dotGeneral dot_S32768x64_S64x1024_S32768x1024_1_0_0_1_n_n none (flat x)
    (transpose S64x1024 [1, 0] w transposes_S1024x64_S64x1024_1_0)

/-- The squared distance of every token to every code, expanded: lengths minus twice the inner product. -/
def dist (x : FVec F S4x64x8x32x32 .f32) (w : FVec F S1024x64 .f32) : FVec F S32768x1024 .f32 :=
  subf (addf (broadcastInDim S32768x1024 ![0, 1] bcast_S32768x1_S32768x1024_0_1 (tokenSq x))
      (broadcastInDim S32768x1024 ![0, 1] bcast_S1x1024_S32768x1024_0_1 (codeSq w)))
    (mulf (broadcastInDim S32768x1024 ![] bcast_S_S32768x1024 (constant S_ .f32 0x40000000#32)) (inner x w))

/-- The lowest of the nearest codes of every token, from the distances. -/
def codesOf (d : FVec F S32768x1024 .f32) : IVec S32768 32 := fun j =>
  (Host.argReduce reducer_argmin_f32_i32 d (iotaInDim S32768x1024 32 1) (constant S_ .f32 0x7F800000#32)
    (constantI S_ 32 0#32) reducesTo_S32768x1024_S32768_d1 h_S_ j).2

/-- The nearest code of every token. -/
def codes (x : FVec F S4x64x8x32x32 .f32) (w : FVec F S1024x64 .f32) : IVec S32768 32 := codesOf (dist x w)

/-- The row numbers `jnp.take` fetches: a negative one counts from the end. -/
def rowsOf (k : IVec S32768 32) : IVec S32768x1 32 :=
  broadcastInDim S32768x1 ![0] bcast_S32768_S32768x1_0
    (select (cmpi .slt k (broadcastInDim S32768 ![] bcast_S_S32768 (constantI S_ 32 0#32)))
      (addi k (broadcastInDim S32768 ![] bcast_S_S32768 (constantI S_ 32 1024#32))) k)

/-- Whether each row number names a row of the code book. -/
def inside (k : IVec S32768 32) : IVec S32768 1 :=
  Host.reduce IntOp.andi
    (andi (cmpi .sge (rowsOf k) (broadcastInDim S32768x1 ![] bcast_S_S32768x1 (constantI S_ 32 0#32)))
      (cmpi .sle (rowsOf k) (broadcastInDim S32768x1 ![0, 1] bcast_S1x1_S32768x1_0_1
        (broadcastInDim S1x1 ![1] bcast_S1_S1x1_1 (constantI S1 32 1023#32)))))
    (constantI S_ 1 1#1) reducesTo_S32768x1_S32768_d1 h_S_

/-- `jnp.take`: the code book's row of each number, a fill where the number names none. -/
def taken (w : FVec F S1024x64 .f32) (k : IVec S32768 32) : FVec F S32768x64 .f32 :=
  select (broadcastInDim S32768x64 ![0] bcast_S32768_S32768x64_0 (inside k))
    (Host.gather gather_S1024x64_S32768x1_S32768x64_1_0_n_n_0_1_164 w (rowsOf k))
    (broadcastInDim S32768x64 ![] bcast_S_S32768x64 (constant S_ .f32 0x7FC00000#32))

/-- Rows per token put back in the input's layout. -/
def quantOf (q : FVec F S32768x64 .f32) : FVec F S4x64x8x32x32 .f32 :=
  transpose S4x64x8x32x32 [0, 4, 1, 2, 3]
    (shapeCast S4x8x32x32x64 q shapeCasts_S32768x64_S4x8x32x32x64)
    transposes_S4x8x32x32x64_S4x64x8x32x32_0_4_1_2_3

/-- The quantised tokens in the input's layout. -/
def quant (x : FVec F S4x64x8x32x32 .f32) (w : FVec F S1024x64 .f32) : FVec F S4x64x8x32x32 .f32 :=
  quantOf (taken w (codes x w))

/-- The mean squared difference between `q` and the input. -/
def meanSq (x q : FVec F S4x64x8x32x32 .f32) : FVec F S_ .f32 :=
  Host.divf (Host.reduceAdd (mulf (subf q x) (subf q x)) (constant S_ .f32 0x00000000#32)
    reducesTo_S4x64x8x32x32_S_d0_1_2_3_4 h_S_) (constant S_ .f32 0x4A000000#32)

/-- The loss: the code book's term plus a quarter of the commitment term, which are the same mean. -/
def lossOf (x q : FVec F S4x64x8x32x32 .f32) : FVec F S_ .f32 :=
  addf (meanSq x q) (mulf (constant S_ .f32 0x3E800000#32) (meanSq x q))

/-- The input plus the step from it to `q`. -/
def throughOf (x q : FVec F S4x64x8x32x32 .f32) : FVec F S4x64x8x32x32 .f32 := addf x (subf q x)

/-- A number per token in the input's layout without its channels. -/
def mapOf (k : IVec S32768 32) : IVec S4x8x32x32 32 := shapeCast _ k shapeCasts_S32768_S4x8x32x32

/-- The reference's loss. -/
def loss (x : FVec F S4x64x8x32x32 .f32) (w : FVec F S1024x64 .f32) : FVec F S_ .f32 := lossOf x (quant x w)

/-- The reference's straight-through result. -/
def through (x : FVec F S4x64x8x32x32 .f32) (w : FVec F S1024x64 .f32) : FVec F S4x64x8x32x32 .f32 :=
  throughOf x (quant x w)

/-- The reference's code map. -/
def codeMap (x : FVec F S4x64x8x32x32 .f32) (w : FVec F S1024x64 .f32) : IVec S4x8x32x32 32 := mapOf (codes x w)

/-- Its operations up to the distances. -/
abbrev opsA : List (HloOp τ sig (Elt F)) :=
  [ unary main_arg0 main_v0 ((transpose S4x8x32x32x64 [0, 2, 3, 4, 1] · transposes_S4x64x8x32x32_S4x8x32x32x64_0_2_3_4_1) : (⟨S4x64x8x32x32, .f32⟩ : BufTy).Contents (Elt F) → (⟨S4x8x32x32x64, .f32⟩ : BufTy).Contents (Elt F)),
    reshape main_v0 main_v1 (rfl : (.f32 : EltTy) = .f32) shapeCasts_S4x8x32x32x64_S32768x64,
    binary main_v1 main_v1 main_v2 (mulf : (⟨S32768x64, .f32⟩ : BufTy).Contents (Elt F) → (⟨S32768x64, .f32⟩ : BufTy).Contents (Elt F) → (⟨S32768x64, .f32⟩ : BufTy).Contents (Elt F)),
    nullary main_cst (constant S_ .f32 0x00000000#32),
    binary main_v2 main_cst main_v3 ((fun x v => Host.reduceAdd x v reducesTo_S32768x64_S32768_d1 h_S_) : (⟨S32768x64, .f32⟩ : BufTy).Contents (Elt F) → (⟨S_, .f32⟩ : BufTy).Contents (Elt F) → (⟨S32768, .f32⟩ : BufTy).Contents (Elt F)),
    unary main_v3 main_v4 (broadcastInDim S32768x1 ![0] bcast_S32768_S32768x1_0 : (⟨S32768, .f32⟩ : BufTy).Contents (Elt F) → (⟨S32768x1, .f32⟩ : BufTy).Contents (Elt F)),
    binary main_arg1 main_arg1 main_v5 (mulf : (⟨S1024x64, .f32⟩ : BufTy).Contents (Elt F) → (⟨S1024x64, .f32⟩ : BufTy).Contents (Elt F) → (⟨S1024x64, .f32⟩ : BufTy).Contents (Elt F)),
    nullary main_cst_0 (constant S_ .f32 0x00000000#32),
    binary main_v5 main_cst_0 main_v6 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v6 main_v7 (broadcastInDim S1x1024 ![1] bcast_S1024_S1x1024_1 : (⟨S1024, .f32⟩ : BufTy).Contents (Elt F) → (⟨S1x1024, .f32⟩ : BufTy).Contents (Elt F)),
    unary main_v4 main_v8 (broadcastInDim S32768x1024 ![0, 1] bcast_S32768x1_S32768x1024_0_1 : (⟨S32768x1, .f32⟩ : BufTy).Contents (Elt F) → (⟨S32768x1024, .f32⟩ : BufTy).Contents (Elt F)),
    unary main_v7 main_v9 (broadcastInDim S32768x1024 ![0, 1] bcast_S1x1024_S32768x1024_0_1 : (⟨S1x1024, .f32⟩ : BufTy).Contents (Elt F) → (⟨S32768x1024, .f32⟩ : BufTy).Contents (Elt F)),
    binary main_v8 main_v9 main_v10 (addf : (⟨S32768x1024, .f32⟩ : BufTy).Contents (Elt F) → (⟨S32768x1024, .f32⟩ : BufTy).Contents (Elt F) → (⟨S32768x1024, .f32⟩ : BufTy).Contents (Elt F)),
    unary main_arg1 main_v11 ((transpose S64x1024 [1, 0] · transposes_S1024x64_S64x1024_1_0) : (⟨S1024x64, .f32⟩ : BufTy).Contents (Elt F) → (⟨S64x1024, .f32⟩ : BufTy).Contents (Elt F)),
    binary main_v1 main_v11 main_v12 ((fun l r => Host.dotGeneral dot_S32768x64_S64x1024_S32768x1024_1_0_0_1_n_n none l r) : (⟨S32768x64, .f32⟩ : BufTy).Contents (Elt F) → (⟨S64x1024, .f32⟩ : BufTy).Contents (Elt F) → (⟨S32768x1024, .f32⟩ : BufTy).Contents (Elt F)),
    nullary main_cst_1 (constant S_ .f32 0x40000000#32),
    unary main_cst_1 main_v13 (broadcastInDim S32768x1024 ![] bcast_S_S32768x1024 : (⟨S_, .f32⟩ : BufTy).Contents (Elt F) → (⟨S32768x1024, .f32⟩ : BufTy).Contents (Elt F)),
    binary main_v13 main_v12 main_v14 (mulf : (⟨S32768x1024, .f32⟩ : BufTy).Contents (Elt F) → (⟨S32768x1024, .f32⟩ : BufTy).Contents (Elt F) → (⟨S32768x1024, .f32⟩ : BufTy).Contents (Elt F)),
    binary main_v10 main_v14 main_v15 (subf : (⟨S32768x1024, .f32⟩ : BufTy).Contents (Elt F) → (⟨S32768x1024, .f32⟩ : BufTy).Contents (Elt F) → (⟨S32768x1024, .f32⟩ : BufTy).Contents (Elt F)) ]

/-- The operations of `jnp.argmin`. -/
abbrev opsB : List (HloOp τ sig (Elt F)) :=
  [ TRef.nullary (TRef.of (T := ⟨S32768x1024, .i32⟩) main_call0_v0) (iotaInDim S32768x1024 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S32768x1024, .f32⟩) main_v15) (TRef.of (T := ⟨S32768x1024, .i32⟩) main_call0_v0) (TRef.of (T := ⟨S_, .f32⟩) main_call0_cst) (TRef.of (T := ⟨S_, .i32⟩) main_call0_c) (TRef.of (T := ⟨S32768, .f32⟩) main_call0_v1_0) (fun x y u v j => (Host.argReduce reducer_argmin_f32_i32 x y u v reducesTo_S32768x1024_S32768_d1 h_S_ j).1),
    TRef.quaternary (TRef.of (T := ⟨S32768x1024, .f32⟩) main_v15) (TRef.of (T := ⟨S32768x1024, .i32⟩) main_call0_v0) (TRef.of (T := ⟨S_, .f32⟩) main_call0_cst) (TRef.of (T := ⟨S_, .i32⟩) main_call0_c) (TRef.of (T := ⟨S32768, .i32⟩) main_v16) (fun x y u v j => (Host.argReduce reducer_argmin_f32_i32 x y u v reducesTo_S32768x1024_S32768_d1 h_S_ j).2) ]

/-- The code map and the operations of `jnp.take`. -/
abbrev opsC : List (HloOp τ sig (Elt F)) :=
  [ reshape main_v16 main_v17 (rfl : (.i32 : EltTy) = .i32) shapeCasts_S32768_S4x8x32x32,
    TRef.nullary (TRef.of (T := ⟨S_, .i32⟩) main_call1_c) (constantI S_ 32 0#32),
    TRef.unary (TRef.of (T := ⟨S_, .i32⟩) main_call1_c) (TRef.of (T := ⟨S32768, .i32⟩) main_call1_v0) (broadcastInDim S32768 ![] bcast_S_S32768),
    TRef.binary (TRef.of (T := ⟨S32768, .i32⟩) main_v16) (TRef.of (T := ⟨S32768, .i32⟩) main_call1_v0) (TRef.of (T := ⟨S32768, .i1⟩) main_call1_v1) (cmpi .slt),
    TRef.nullary (TRef.of (T := ⟨S_, .i32⟩) main_call1_c_0) (constantI S_ 32 1024#32),
    TRef.unary (TRef.of (T := ⟨S_, .i32⟩) main_call1_c_0) (TRef.of (T := ⟨S32768, .i32⟩) main_call1_v2) (broadcastInDim S32768 ![] bcast_S_S32768),
    TRef.binary (TRef.of (T := ⟨S32768, .i32⟩) main_v16) (TRef.of (T := ⟨S32768, .i32⟩) main_call1_v2) (TRef.of (T := ⟨S32768, .i32⟩) main_call1_v3) addi,
    TRef.ternary (TRef.of (T := ⟨S32768, .i1⟩) main_call1_v1) (TRef.of (T := ⟨S32768, .i32⟩) main_call1_v3) (TRef.of (T := ⟨S32768, .i32⟩) main_v16) (TRef.of (T := ⟨S32768, .i32⟩) main_call1_v4) select,
    TRef.unary (TRef.of (T := ⟨S32768, .i32⟩) main_call1_v4) (TRef.of (T := ⟨S32768x1, .i32⟩) main_call1_v5) (broadcastInDim S32768x1 ![0] bcast_S32768_S32768x1_0),
    TRef.nullary (TRef.of (T := ⟨S1, .i32⟩) main_call1_c_1) (constantI S1 32 1023#32),
    TRef.nullary (TRef.of (T := ⟨S_, .i32⟩) main_call1_c_2) (constantI S_ 32 0#32),
    TRef.unary (TRef.of (T := ⟨S_, .i32⟩) main_call1_c_2) (TRef.of (T := ⟨S32768x1, .i32⟩) main_call1_v6) (broadcastInDim S32768x1 ![] bcast_S_S32768x1),
    TRef.binary (TRef.of (T := ⟨S32768x1, .i32⟩) main_call1_v5) (TRef.of (T := ⟨S32768x1, .i32⟩) main_call1_v6) (TRef.of (T := ⟨S32768x1, .i1⟩) main_call1_v7) (cmpi .sge),
    TRef.unary (TRef.of (T := ⟨S1, .i32⟩) main_call1_c_1) (TRef.of (T := ⟨S1x1, .i32⟩) main_call1_v8) (broadcastInDim S1x1 ![1] bcast_S1_S1x1_1),
    TRef.unary (TRef.of (T := ⟨S1x1, .i32⟩) main_call1_v8) (TRef.of (T := ⟨S32768x1, .i32⟩) main_call1_v9) (broadcastInDim S32768x1 ![0, 1] bcast_S1x1_S32768x1_0_1),
    TRef.binary (TRef.of (T := ⟨S32768x1, .i32⟩) main_call1_v5) (TRef.of (T := ⟨S32768x1, .i32⟩) main_call1_v9) (TRef.of (T := ⟨S32768x1, .i1⟩) main_call1_v10) (cmpi .sle),
    TRef.binary (TRef.of (T := ⟨S32768x1, .i1⟩) main_call1_v7) (TRef.of (T := ⟨S32768x1, .i1⟩) main_call1_v10) (TRef.of (T := ⟨S32768x1, .i1⟩) main_call1_v11) andi,
    TRef.nullary (TRef.of (T := ⟨S_, .i1⟩) main_call1_c_3) (constantI S_ 1 1#1),
    TRef.binary (TRef.of (T := ⟨S32768x1, .i1⟩) main_call1_v11) (TRef.of (T := ⟨S_, .i1⟩) main_call1_c_3) (TRef.of (T := ⟨S32768, .i1⟩) main_call1_v12) (fun x v => Host.reduce IntOp.andi x v reducesTo_S32768x1_S32768_d1 h_S_),
    TRef.binary (TRef.of (T := ⟨S1024x64, .f32⟩) main_arg1) (TRef.of (T := ⟨S32768x1, .i32⟩) main_call1_v5) (TRef.of (T := ⟨S32768x64, .f32⟩) main_call1_v13) (fun x i => Host.gather gather_S1024x64_S32768x1_S32768x64_1_0_n_n_0_1_164 x i),
    TRef.unary (TRef.of (T := ⟨S32768, .i1⟩) main_call1_v12) (TRef.of (T := ⟨S32768x64, .i1⟩) main_call1_v14) (broadcastInDim S32768x64 ![0] bcast_S32768_S32768x64_0),
    TRef.nullary (TRef.of (T := ⟨S_, .f32⟩) main_call1_cst) (constant S_ .f32 0x7FC00000#32),
    TRef.unary (TRef.of (T := ⟨S_, .f32⟩) main_call1_cst) (TRef.of (T := ⟨S32768x64, .f32⟩) main_call1_v15) (broadcastInDim S32768x64 ![] bcast_S_S32768x64),
    TRef.ternary (TRef.of (T := ⟨S32768x64, .i1⟩) main_call1_v14) (TRef.of (T := ⟨S32768x64, .f32⟩) main_call1_v13) (TRef.of (T := ⟨S32768x64, .f32⟩) main_call1_v15) (TRef.of (T := ⟨S32768x64, .f32⟩) main_v18) select ]

/-- The operations after `jnp.take`. -/
abbrev opsD : List (HloOp τ sig (Elt F)) :=
  [ reshape main_v18 main_v19 (rfl : (.f32 : EltTy) = .f32) shapeCasts_S32768x64_S4x8x32x32x64,
    unary main_v19 main_v20 ((transpose S4x64x8x32x32 [0, 4, 1, 2, 3] · transposes_S4x8x32x32x64_S4x64x8x32x32_0_4_1_2_3) : (⟨S4x8x32x32x64, .f32⟩ : BufTy).Contents (Elt F) → (⟨S4x64x8x32x32, .f32⟩ : BufTy).Contents (Elt F)),
    binary main_v20 main_arg0 main_v21 (subf : (⟨S4x64x8x32x32, .f32⟩ : BufTy).Contents (Elt F) → (⟨S4x64x8x32x32, .f32⟩ : BufTy).Contents (Elt F) → (⟨S4x64x8x32x32, .f32⟩ : BufTy).Contents (Elt F)),
    binary main_v21 main_v21 main_v22 (mulf : (⟨S4x64x8x32x32, .f32⟩ : BufTy).Contents (Elt F) → (⟨S4x64x8x32x32, .f32⟩ : BufTy).Contents (Elt F) → (⟨S4x64x8x32x32, .f32⟩ : BufTy).Contents (Elt F)),
    nullary main_cst_2 (constant S_ .f32 0x00000000#32),
    binary main_v22 main_cst_2 main_v23 ((fun x v => Host.reduceAdd x v reducesTo_S4x64x8x32x32_S_d0_1_2_3_4 h_S_) : (⟨S4x64x8x32x32, .f32⟩ : BufTy).Contents (Elt F) → (⟨S_, .f32⟩ : BufTy).Contents (Elt F) → (⟨S_, .f32⟩ : BufTy).Contents (Elt F)),
    nullary main_cst_3 (constant S_ .f32 0x4A000000#32),
    binary main_v23 main_cst_3 main_v24 (Host.divf : (⟨S_, .f32⟩ : BufTy).Contents (Elt F) → (⟨S_, .f32⟩ : BufTy).Contents (Elt F) → (⟨S_, .f32⟩ : BufTy).Contents (Elt F)),
    binary main_v20 main_arg0 main_v25 (subf : (⟨S4x64x8x32x32, .f32⟩ : BufTy).Contents (Elt F) → (⟨S4x64x8x32x32, .f32⟩ : BufTy).Contents (Elt F) → (⟨S4x64x8x32x32, .f32⟩ : BufTy).Contents (Elt F)),
    binary main_v25 main_v25 main_v26 (mulf : (⟨S4x64x8x32x32, .f32⟩ : BufTy).Contents (Elt F) → (⟨S4x64x8x32x32, .f32⟩ : BufTy).Contents (Elt F) → (⟨S4x64x8x32x32, .f32⟩ : BufTy).Contents (Elt F)),
    nullary main_cst_4 (constant S_ .f32 0x00000000#32),
    binary main_v26 main_cst_4 main_v27 ((fun x v => Host.reduceAdd x v reducesTo_S4x64x8x32x32_S_d0_1_2_3_4 h_S_) : (⟨S4x64x8x32x32, .f32⟩ : BufTy).Contents (Elt F) → (⟨S_, .f32⟩ : BufTy).Contents (Elt F) → (⟨S_, .f32⟩ : BufTy).Contents (Elt F)),
    nullary main_cst_5 (constant S_ .f32 0x4A000000#32),
    binary main_v27 main_cst_5 main_v28 (Host.divf : (⟨S_, .f32⟩ : BufTy).Contents (Elt F) → (⟨S_, .f32⟩ : BufTy).Contents (Elt F) → (⟨S_, .f32⟩ : BufTy).Contents (Elt F)),
    nullary main_cst_6 (constant S_ .f32 0x3E800000#32),
    binary main_cst_6 main_v24 main_v29 (mulf : (⟨S_, .f32⟩ : BufTy).Contents (Elt F) → (⟨S_, .f32⟩ : BufTy).Contents (Elt F) → (⟨S_, .f32⟩ : BufTy).Contents (Elt F)),
    binary main_v28 main_v29 main_v30 (addf : (⟨S_, .f32⟩ : BufTy).Contents (Elt F) → (⟨S_, .f32⟩ : BufTy).Contents (Elt F) → (⟨S_, .f32⟩ : BufTy).Contents (Elt F)),
    binary main_v20 main_arg0 main_v31 (subf : (⟨S4x64x8x32x32, .f32⟩ : BufTy).Contents (Elt F) → (⟨S4x64x8x32x32, .f32⟩ : BufTy).Contents (Elt F) → (⟨S4x64x8x32x32, .f32⟩ : BufTy).Contents (Elt F)),
    binary main_arg0 main_v31 main_v32 (addf : (⟨S4x64x8x32x32, .f32⟩ : BufTy).Contents (Elt F) → (⟨S4x64x8x32x32, .f32⟩ : BufTy).Contents (Elt F) → (⟨S4x64x8x32x32, .f32⟩ : BufTy).Contents (Elt F)) ]

/-- All its operations, in order. -/
abbrev ops : List (HloOp τ sig (Elt F)) := opsA ++ (opsB ++ (opsC ++ opsD))

set_option maxRecDepth 8192 in
set_option maxHeartbeats 4000000 in
theorem main_eq (c : Dev nD) : main (F := F) c = seq ops := rfl

theorem no_scoped_refs : (Finset.univ.filter fun b : Ref sig .tc => b.isScoped) = ∅ := by decide

theorem no_scoped_sems : (Finset.univ.filter fun sm : SemLoc sig => sm.isScoped .tc) = ∅ := by decide

theorem withinA : (opsA : List (HloOp τ sig (Elt F))).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub ..⟩

theorem withinB : (opsB : List (HloOp τ sig (Elt F))).Forall fun op => op.bufs ⊆ tcRefs τ sig :=
  ⟨nullary_bufs_sub .., nullary_bufs_sub .., nullary_bufs_sub .., quaternary_bufs_sub .., quaternary_bufs_sub ..⟩

theorem withinC : (opsC : List (HloOp τ sig (Elt F))).Forall fun op => op.bufs ⊆ tcRefs τ sig :=
  ⟨reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem withinD : (opsD : List (HloOp τ sig (Elt F))).Forall fun op => op.bufs ⊆ tcRefs τ sig :=
  ⟨reshape_bufs_sub .., unary_bufs_sub .., binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub ..⟩

theorem ops_within : (ops : List (HloOp τ sig (Elt F))).Forall fun op => op.bufs ⊆ tcRefs τ sig :=
  List.forall_append.mpr ⟨withinA, List.forall_append.mpr ⟨withinB, List.forall_append.mpr ⟨withinC, withinD⟩⟩⟩

/-- Running two lists of operations one after the other. -/
theorem after_two (l l' : List (HloOp τ sig (Elt F))) (V : Valuation τ sig (Elt F)) :
    after (l ++ l') V = after l' (after l V) := by
  induction l generalizing V with
  | nil => rfl
  | cons o l ih => exact ih _

section
variable (V : Valuation τ sig (Elt F))

set_option maxHeartbeats 4000000 in
theorem readA_v15 : after opsA V (Proc.devRef .tc main_v15) = dist (V (Proc.devRef .tc main_arg0)) (V (Proc.devRef .tc main_arg1)) :=
  by simp only [opsA, TRef.quaternary, TRef.binary, TRef.nullary, TRef.ternary, TRef.unary, TRef.toBuf, TRef.ofBuf, cast_eq]; after_results_simp <;> rfl

set_option maxHeartbeats 4000000 in
theorem readA_arg0 : after opsA V (Proc.devRef .tc main_arg0) = V (Proc.devRef .tc main_arg0) :=
  by simp only [opsA, TRef.quaternary, TRef.binary, TRef.nullary, TRef.ternary, TRef.unary, TRef.toBuf, TRef.ofBuf, cast_eq]; after_results_simp <;> rfl

set_option maxHeartbeats 4000000 in
theorem readA_arg1 : after opsA V (Proc.devRef .tc main_arg1) = V (Proc.devRef .tc main_arg1) :=
  by simp only [opsA, TRef.quaternary, TRef.binary, TRef.nullary, TRef.ternary, TRef.unary, TRef.toBuf, TRef.ofBuf, cast_eq]; after_results_simp <;> rfl

set_option maxHeartbeats 4000000 in
theorem readB_v16 : after opsB V (Proc.devRef .tc main_v16) = codesOf (V (Proc.devRef .tc main_v15)) :=
  by simp only [opsB, TRef.quaternary, TRef.binary, TRef.nullary, TRef.ternary, TRef.unary, TRef.toBuf, TRef.ofBuf, cast_eq]; after_results_simp <;> rfl

set_option maxHeartbeats 4000000 in
theorem readB_arg0 : after opsB V (Proc.devRef .tc main_arg0) = V (Proc.devRef .tc main_arg0) :=
  by simp only [opsB, TRef.quaternary, TRef.binary, TRef.nullary, TRef.ternary, TRef.unary, TRef.toBuf, TRef.ofBuf, cast_eq]; after_results_simp <;> rfl

set_option maxHeartbeats 4000000 in
theorem readB_arg1 : after opsB V (Proc.devRef .tc main_arg1) = V (Proc.devRef .tc main_arg1) :=
  by simp only [opsB, TRef.quaternary, TRef.binary, TRef.nullary, TRef.ternary, TRef.unary, TRef.toBuf, TRef.ofBuf, cast_eq]; after_results_simp <;> rfl

set_option maxHeartbeats 4000000 in
theorem readC_v17 : after opsC V (Proc.devRef .tc main_v17) = mapOf (V (Proc.devRef .tc main_v16)) :=
  by simp only [opsC, TRef.quaternary, TRef.binary, TRef.nullary, TRef.ternary, TRef.unary, TRef.toBuf, TRef.ofBuf, cast_eq]; after_results_simp <;> rfl

set_option maxHeartbeats 4000000 in
theorem readC_v18 : after opsC V (Proc.devRef .tc main_v18) = taken (V (Proc.devRef .tc main_arg1)) (V (Proc.devRef .tc main_v16)) :=
  by simp only [opsC, TRef.quaternary, TRef.binary, TRef.nullary, TRef.ternary, TRef.unary, TRef.toBuf, TRef.ofBuf, cast_eq]; after_results_simp <;> rfl

set_option maxHeartbeats 4000000 in
theorem readC_arg0 : after opsC V (Proc.devRef .tc main_arg0) = V (Proc.devRef .tc main_arg0) :=
  by simp only [opsC, TRef.quaternary, TRef.binary, TRef.nullary, TRef.ternary, TRef.unary, TRef.toBuf, TRef.ofBuf, cast_eq]; after_results_simp <;> rfl

set_option maxHeartbeats 4000000 in
theorem readC_arg1 : after opsC V (Proc.devRef .tc main_arg1) = V (Proc.devRef .tc main_arg1) :=
  by simp only [opsC, TRef.quaternary, TRef.binary, TRef.nullary, TRef.ternary, TRef.unary, TRef.toBuf, TRef.ofBuf, cast_eq]; after_results_simp <;> rfl

set_option maxHeartbeats 4000000 in
theorem readD_v32 : after opsD V (Proc.devRef .tc main_v32) = throughOf (V (Proc.devRef .tc main_arg0)) (quantOf (V (Proc.devRef .tc main_v18))) :=
  by simp only [opsD, TRef.quaternary, TRef.binary, TRef.nullary, TRef.ternary, TRef.unary, TRef.toBuf, TRef.ofBuf, cast_eq]; after_results_simp <;> rfl

set_option maxHeartbeats 4000000 in
theorem readD_v30 : after opsD V (Proc.devRef .tc main_v30) = lossOf (V (Proc.devRef .tc main_arg0)) (quantOf (V (Proc.devRef .tc main_v18))) :=
  by simp only [opsD, TRef.quaternary, TRef.binary, TRef.nullary, TRef.ternary, TRef.unary, TRef.toBuf, TRef.ofBuf, cast_eq]; after_results_simp <;> rfl

set_option maxHeartbeats 4000000 in
theorem readD_v17 : after opsD V (Proc.devRef .tc main_v17) = V (Proc.devRef .tc main_v17) :=
  by simp only [opsD, TRef.quaternary, TRef.binary, TRef.nullary, TRef.ternary, TRef.unary, TRef.toBuf, TRef.ofBuf, cast_eq]; after_results_simp <;> rfl

set_option maxHeartbeats 4000000 in
theorem readD_arg0 : after opsD V (Proc.devRef .tc main_arg0) = V (Proc.devRef .tc main_arg0) :=
  by simp only [opsD, TRef.quaternary, TRef.binary, TRef.nullary, TRef.ternary, TRef.unary, TRef.toBuf, TRef.ofBuf, cast_eq]; after_results_simp <;> rfl

set_option maxHeartbeats 4000000 in
theorem readD_arg1 : after opsD V (Proc.devRef .tc main_arg1) = V (Proc.devRef .tc main_arg1) :=
  by simp only [opsD, TRef.quaternary, TRef.binary, TRef.nullary, TRef.ternary, TRef.unary, TRef.toBuf, TRef.ofBuf, cast_eq]; after_results_simp <;> rfl

end

/-- Every execution of the reference terminates, its results the values above at the arguments, its arguments as
    they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v32)
          = through (m ((c.tc : Thread nD τ).loc main_arg0)) (m ((c.tc : Thread nD τ).loc main_arg1))
      ∧ r.2.mem ((c.tc : Thread nD τ).loc main_v30)
          = loss (m ((c.tc : Thread nD τ).loc main_arg0)) (m ((c.tc : Thread nD τ).loc main_arg1))
      ∧ r.2.mem ((c.tc : Thread nD τ).loc main_v17)
          = codeMap (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c main_v32).trans (by
        rw [ops, after_two, after_two, after_two, readD_v32, readC_v18, readC_arg0, readB_v16, readB_arg0, readB_arg1,
          readA_v15, readA_arg0, readA_arg1]; rfl),
      (h c main_v30).trans (by
        rw [ops, after_two, after_two, after_two, readD_v30, readC_v18, readC_arg0, readB_v16, readB_arg0, readB_arg1,
          readA_v15, readA_arg0, readA_arg1]; rfl),
      (h c main_v17).trans (by
        rw [ops, after_two, after_two, after_two, readD_v17, readC_v17, readB_v16, readA_v15]; rfl),
      (h c main_arg0).trans (by
        rw [ops, after_two, after_two, after_two, readD_arg0, readC_arg0, readB_arg0, readA_arg0]),
      (h c main_arg1).trans (by
        rw [ops, after_two, after_two, after_two, readD_arg1, readC_arg1, readB_arg1, readA_arg1])⟩)
    (run_seq no_scoped_refs no_scoped_sems defs main (fun _ => ops) main_eq (fun _ => ops_within) m ρ)

/-- The reference also ends with every counter at zero: it has none. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => ⟨(h c).2.2.2.1, (h c).2.2.2.2⟩,
    Idealize.ShloMosaic.sem_eq_zero_of_no_sems (by decide) r.2⟩) (run m ρ)

end Cert.Vq.Ref

end
-- ==== Proof.ArgMin.lean ====
/- The reference's choice of a code, at the extended reals: the fold over a token's (distance, code) pairs ends at the
   pair of least distance and, among those, of lowest code. -/
module

public import proofs.«01_k».proof.Proof.RefRun
public import proofs.«01_k».proof.Proof.KPay
public import Idealize.ShloMosaic.Lib.ValueIdx
public import Idealize.ShloMosaic.PureOps.Ideal.Laws
public import Idealize.ShloMosaic.Lib.IdealHost

@[expose] public section

noncomputable section

namespace Cert.Vq.Ref

open Cert.ReferenceIdeal Cert.ReferenceIdeal.Gen Idealize.ShloMosaic Idealize.ShloMosaic.ValueIdx

/-- One pair comes no later than another: its distance is less, or the same and its code is no more. -/
def NoLater (a b : EReal × BitVec 32) : Prop := a.1 < b.1 ∨ (a.1 = b.1 ∧ a.2.toInt ≤ b.2.toInt)

theorem NoLater.refl (a : EReal × BitVec 32) : NoLater a a := Or.inr ⟨rfl, le_rfl⟩

theorem NoLater.trans {a b c : EReal × BitVec 32} (h : NoLater a b) (h' : NoLater b c) : NoLater a c := by
  rcases h with h | ⟨h, hi⟩ <;> rcases h' with h' | ⟨h', hi'⟩
  · exact Or.inl (h.trans h')
  · exact Or.inl (h.trans_eq h')
  · exact Or.inl (h.trans_lt h')
  · exact Or.inr ⟨h.trans h', hi.trans hi'⟩

/-- The choice between two pairs is one of them, and comes no later than either. -/
theorem pick (a b : EReal × BitVec 32) :
    (reducer_argmin_f32_i32 (F := Ideal) a b = a ∨ reducer_argmin_f32_i32 (F := Ideal) a b = b) ∧
      NoLater (reducer_argmin_f32_i32 (F := Ideal) a b) a ∧ NoLater (reducer_argmin_f32_i32 (F := Ideal) a b) b := by
  obtain ⟨x, k⟩ := a
  obtain ⟨y, l⟩ := b
  have hlt : FloatOps.cmpf (F := Ideal) (φ := .f32) .olt x y = BitVec.ofBool (decide (x < y)) := by
    rw [Ideal.cmpf_def]; simp [Ideal.cmp]
  have heq : FloatOps.cmpf (F := Ideal) (φ := .f32) .oeq x y = BitVec.ofBool (decide (x = y)) := by
    rw [Ideal.cmpf_def]; simp [Ideal.cmp]
  have hne : FloatOps.cmpf (F := Ideal) (φ := .f32) .une x x = 0#1 := by
    rw [Ideal.cmpf_def]; simp [Ideal.cmp]
  have hs : IntOp.cmpi .slt k l = BitVec.ofBool (decide (k.toInt < l.toInt)) := rfl
  unfold reducer_argmin_f32_i32
  dsimp only
  rw [hlt, heq, hne, hs]
  by_cases h1 : x < y
  · have e : (Scalar.select (IntOp.ori (BitVec.ofBool (decide (x < y))) 0#1) x y,
        Scalar.select (IntOp.ori (IntOp.ori (BitVec.ofBool (decide (x < y))) 0#1)
          (IntOp.andi (BitVec.ofBool (decide (x = y))) (BitVec.ofBool (decide (k.toInt < l.toInt))))) k l) = (x, k) := by
      simp only [h1, decide_true, h1.ne, decide_false]
      cases decide (k.toInt < l.toInt) <;> rfl
    rw [e]
    exact ⟨Or.inl rfl, NoLater.refl _, Or.inl h1⟩
  · by_cases h2 : x = y
    · subst h2
      by_cases h3 : k.toInt < l.toInt
      · have e : (Scalar.select (IntOp.ori (BitVec.ofBool (decide (x < x))) 0#1) x x,
            Scalar.select (IntOp.ori (IntOp.ori (BitVec.ofBool (decide (x < x))) 0#1)
              (IntOp.andi (BitVec.ofBool (decide (x = x))) (BitVec.ofBool (decide (k.toInt < l.toInt))))) k l) = (x, k) := by
          simp only [h1, decide_true, decide_false, h3]; rfl
        rw [e]
        exact ⟨Or.inl rfl, NoLater.refl _, Or.inr ⟨rfl, h3.le⟩⟩
      · have e : (Scalar.select (IntOp.ori (BitVec.ofBool (decide (x < x))) 0#1) x x,
            Scalar.select (IntOp.ori (IntOp.ori (BitVec.ofBool (decide (x < x))) 0#1)
              (IntOp.andi (BitVec.ofBool (decide (x = x))) (BitVec.ofBool (decide (k.toInt < l.toInt))))) k l) = (x, l) := by
          simp only [h1, decide_true, decide_false, h3]; rfl
        rw [e]
        exact ⟨Or.inr rfl, Or.inr ⟨rfl, not_lt.mp h3⟩, NoLater.refl _⟩
    · have e : (Scalar.select (IntOp.ori (BitVec.ofBool (decide (x < y))) 0#1) x y,
          Scalar.select (IntOp.ori (IntOp.ori (BitVec.ofBool (decide (x < y))) 0#1)
            (IntOp.andi (BitVec.ofBool (decide (x = y))) (BitVec.ofBool (decide (k.toInt < l.toInt))))) k l) = (y, l) := by
        simp only [h1, h2, decide_false]
        cases decide (k.toInt < l.toInt) <;> rfl
      rw [e]
      exact ⟨Or.inr rfl, Or.inl (lt_of_le_of_ne (not_lt.mp h1) (Ne.symm h2)), NoLater.refl _⟩

/-- The fold of the choice is its start or one of the list's pairs, and comes no later than any of them. -/
theorem pick_fold : ∀ (L : List (EReal × BitVec 32)) (z : EReal × BitVec 32),
    (L.foldl (reducer_argmin_f32_i32 (F := Ideal)) z = z ∨ L.foldl (reducer_argmin_f32_i32 (F := Ideal)) z ∈ L) ∧
      NoLater (L.foldl (reducer_argmin_f32_i32 (F := Ideal)) z) z ∧
      ∀ p ∈ L, NoLater (L.foldl (reducer_argmin_f32_i32 (F := Ideal)) z) p
  | [], z => ⟨Or.inl rfl, NoLater.refl z, fun p hp => absurd hp (List.not_mem_nil)⟩
  | p :: L, z => by
    obtain ⟨hm, hz, hL⟩ := pick_fold L (reducer_argmin_f32_i32 (F := Ideal) z p)
    obtain ⟨ho, h1, h2⟩ := pick z p
    rw [List.foldl_cons]
    refine ⟨?_, hz.trans h1, fun q hq => ?_⟩
    · rcases hm with hm | hm
      · rcases ho with ho | ho
        · exact Or.inl (hm.trans ho)
        · exact Or.inr (by rw [hm, ho]; exact List.mem_cons_self)
      · exact Or.inr (List.mem_cons_of_mem _ hm)
    · rcases List.mem_cons.mp hq with rfl | hq
      · exact hz.trans h2
      · exact hL q hq

/-- One axis of the distances, dropped. -/
theorem reduces_dist : S32768x1024.Reduces [1] S32768 := by decide

/-- A token's place among its distances. -/
theorem lift_dist (t : Fin 32768) (k : Fin 1024) : reduces_dist.lift (ix1 t) k = ix2 t k := funext fun a => Fin.ext (by
  match a with
  | ⟨0, _⟩ => rfl
  | ⟨1, _⟩ => rfl)

/-- A token's pairs are its distances with their codes. -/
theorem mem_fiber (d : FVec Ideal S32768x1024 .f32) (t : Fin 32768) (p : EReal × BitVec 32) :
    p ∈ Host.argReduceFiber d (iotaInDim S32768x1024 32 1) reducesTo_S32768x1024_S32768_d1 (ix1 t) ↔
      ∃ k : Fin 1024, p = (d (ix2 t k), BitVec.ofNat 32 k.val) := by
  unfold Host.argReduceFiber
  rw [Shape.ReducesTo.drop_eq_drop reducesTo_S32768x1024_S32768_d1 reduces_dist]
  simp only [List.mem_map, List.mem_filter, List.mem_finRange, true_and, decide_eq_true_eq]
  constructor
  · rintro ⟨n, hn, rfl⟩
    refine ⟨(S32768x1024.rowMajor.symm n) 1, ?_⟩
    have e := (reduces_dist.lift_drop (S32768x1024.rowMajor.symm n)).symm
    rw [hn] at e
    exact Prod.ext (congrArg d (e.trans (lift_dist t _))) rfl
  · rintro ⟨k, rfl⟩
    refine ⟨S32768x1024.rowMajor (ix2 t k), ?_, ?_⟩
    · rw [Equiv.symm_apply_apply, ← lift_dist]
      exact reduces_dist.drop_lift _ _
    · rw [Equiv.symm_apply_apply]
      rfl

/-- Folded from the pair of `⊤` and code 0, the choice among the pairs of the distances `d` has the lowest code of least
    distance. -/
theorem fold_least (d : Fin 1024 → EReal) (L : List (EReal × BitVec 32))
    (hL : ∀ p, p ∈ L ↔ ∃ k : Fin 1024, p = (d k, BitVec.ofNat 32 k.val)) :
    (L.foldl (reducer_argmin_f32_i32 (F := Ideal)) (⊤, 0#32)).2 = BitVec.ofNat 32 (least d).val := by
  obtain ⟨hm, -, hp⟩ := pick_fold L (⊤, 0#32)
  generalize L.foldl (reducer_argmin_f32_i32 (F := Ideal)) (⊤, 0#32) = r at hm hp ⊢
  have hp' := fun l => hp _ ((hL _).mpr ⟨l, rfl⟩)
  rcases hm with rfl | hm
  · have hall : ∀ l : Fin 1024, d l = ⊤ := fun l => by
      rcases hp' l with h | h
      · exact absurd h not_top_lt
      · exact h.1.symm
    have e : (0 : Fin 1024) = least d := eq_least d 0 (fun l => by rw [hall, hall]) fun l _ => Fin.zero_le l
    rw [← e]
    rfl
  · obtain ⟨k, rfl⟩ := (hL _).mp hm
    have e : k = least d := eq_least d k
      (fun l => by
        rcases hp' l with h | h
        · exact h.le
        · exact h.1.le)
      (fun l hl => by
        rcases hp' l with h | h
        · exact absurd hl h.ne
        · have := h.2
          dsimp only at this
          rw [Kern.toInt_code, Kern.toInt_code] at this
          exact Fin.le_def.mpr (by omega))
    rw [← e]

/-- The same of the reduction whose pairs at `j` are those of `d`. -/
theorem reduce_least {s t u : Shape} {axes : List (Fin s.rank)} (x : FVec Ideal s .f32) (y : IVec s 32)
    (ix : FVec Ideal u .f32) (iy : IVec u 32) (h : s.ReducesTo axes t) (hu : 0 < u.numel) (j : t.Idx)
    (hx : (ix (Shape.Idx.first hu) : EReal) = ⊤) (hy : iy (Shape.Idx.first hu) = 0#32) (d : Fin 1024 → EReal)
    (hL : ∀ p, p ∈ Host.argReduceFiber x y h j ↔ ∃ k : Fin 1024, p = (d k, BitVec.ofNat 32 k.val)) :
    (Host.argReduce (reducer_argmin_f32_i32 (F := Ideal)) x y ix iy h hu j).2 = BitVec.ofNat 32 (least d).val := by
  rw [Ideal.argReduce_eq_reduce2, Host.reduce2_eq_foldl_fiber, hy]
  refine Eq.trans ?_ (fold_least d _ hL)
  exact congrArg (fun z : EReal => (List.foldl (reducer_argmin_f32_i32 (F := Ideal)) (z, 0#32)
    (Host.argReduceFiber x y h j)).2) hx

/-- The choice of codes, spelt out. -/
theorem codesOf_eq (d : FVec Ideal S32768x1024 .f32) : codesOf (F := Ideal) d = fun j =>
    (Host.argReduce (reducer_argmin_f32_i32 (F := Ideal)) d (iotaInDim S32768x1024 32 1)
      (constant S_ .f32 0x7F800000#32) (constantI S_ 32 0#32) reducesTo_S32768x1024_S32768_d1 h_S_ j).2 := by
  delta codesOf
  with_reducible rfl

/-- The chosen code is the lowest of least distance. -/
theorem codesOf_at (d : FVec Ideal S32768x1024 .f32) (t : Fin 32768) :
    codesOf (F := Ideal) d (ix1 t) = BitVec.ofNat 32 (least fun k => d (ix2 t k)).val := by
  refine (congrFun (codesOf_eq d) (ix1 t)).trans ?_
  refine reduce_least d (iotaInDim S32768x1024 32 1) _ _ reducesTo_S32768x1024_S32768_d1 h_S_ (ix1 t) ?_ rfl
    (fun k => d (ix2 t k)) (mem_fiber d t)
  show Ideal.ofBits .f32 0x7F800000#32 = ⊤
  simp [Ideal.ofBits, Ideal.ieee]

end Cert.Vq.Ref

end
-- ==== Proof.RefValue.lean ====
/- The reference at the extended reals, read at an index: its distances are `D` of the flattened tokens and the codes, its
   codes the lowest of least distance, and the rows it takes the code book's at those codes. -/
module

public import proofs.«01_k».proof.Proof.ArgMin
public import Idealize.ShloMosaic.Lib.ReduceAll
public import Idealize.ShloMosaic.Lib.Pipeline.Value

@[expose] public section

noncomputable section

namespace Cert.Vq.Ref

open Cert.ReferenceIdeal Cert.ReferenceIdeal.Gen Idealize.ShloMosaic Idealize.ShloMosaic.ValueIdx
open Cert.Vq.Kern (row)

variable (x : FVec Ideal S4x64x8x32x32 .f32) (w : FVec Ideal S1024x64 .f32)

/-- The sum of a token's squares. -/
theorem tokenSq_at (t : Fin 32768) (u : Fin 1) :
    (tokenSq (F := Ideal) x (ix2 t u) : EReal) = ∑ c, row (flat x) t c * row (flat x) t c := by
  unfold tokenSq
  rw [broadcastInDim_apply ![0] bcast_S32768_S32768x1_0 _ (ix2 t u) (ix1 t) (fun a => by
    match a with
    | ⟨0, _⟩ => rfl)]
  simp only [Host.reduceAdd, Ideal.hostReduceAdd_def]
  rw [Ideal.hostReduceAdd_single reducesTo_S32768x64_S32768_d1 (by decide : S32768x64.Reduces [1] S32768)]
  have h0 : (constant (F := Ideal) S_ .f32 0x00000000#32 (Shape.Idx.first h_S_) : EReal) = 0 := Ideal.ofBits_zero_f32
  refine (congrArg (· + _) h0).trans ((zero_add _).trans ?_)
  refine Finset.sum_congr rfl fun c _ => ?_
  have h : (by decide : S32768x64.Reduces [1] S32768).lift (ix1 t) c = ix2 t c := funext fun a => Fin.ext (by
    match a with
    | ⟨0, _⟩ => rfl
    | ⟨1, _⟩ => rfl)
  exact congrArg (mulf (flat x) (flat x)) h

/-- The sum of a code's squares. -/
theorem codeSq_at (u : Fin 1) (k : Fin 1024) :
    (codeSq (F := Ideal) w (ix2 u k) : EReal) = ∑ c, row w k c * row w k c := by
  unfold codeSq
  rw [broadcastInDim_apply ![1] bcast_S1024_S1x1024_1 _ (ix2 u k) (ix1 k) (fun a => by
    match a with
    | ⟨0, _⟩ => rfl)]
  simp only [Host.reduceAdd, Ideal.hostReduceAdd_def]
  rw [Ideal.hostReduceAdd_single reducesTo_S1024x64_S1024_d1 (by decide : S1024x64.Reduces [1] S1024)]
  have h0 : (constant (F := Ideal) S_ .f32 0x00000000#32 (Shape.Idx.first h_S_) : EReal) = 0 := Ideal.ofBits_zero_f32
  refine (congrArg (· + _) h0).trans ((zero_add _).trans ?_)
  refine Finset.sum_congr rfl fun c _ => ?_
  have h : (by decide : S1024x64.Reduces [1] S1024).lift (ix1 k) c = ix2 k c := funext fun a => Fin.ext (by
    match a with
    | ⟨0, _⟩ => rfl
    | ⟨1, _⟩ => rfl)
  exact congrArg (mulf w w) h

/-- The inner product of a token and a code. -/
theorem inner_at (t : Fin 32768) (k : Fin 1024) :
    (inner (F := Ideal) x w (ix2 t k) : EReal) = ∑ c, row (flat x) t c * row w k c := by
  unfold inner
  simp only [Host.dotGeneral]
  rw [Ideal.dotGeneral_apply,
    ← Equiv.sum_comp (contrEquiv1 dot_S32768x64_S64x1024_S32768x1024_1_0_0_1_n_n 64 rfl rfl).symm]
  refine Finset.sum_congr rfl fun c _ => ?_
  congr 1
  exact transpose_apply [1, 0] w transposes_S1024x64_S64x1024_1_0 _ (ix2 k c) (fun b => by
    match b with
    | ⟨0, _⟩ => rfl
    | ⟨1, _⟩ => rfl)

/-- A token's distance to a code. -/
theorem dist_at (t : Fin 32768) (k : Fin 1024) :
    (dist (F := Ideal) x w (ix2 t k) : EReal) = D (row (flat x) t) (row w k) := by
  unfold dist
  rw [subf_apply, addf_apply, mulf_apply, inner_at]
  rw [broadcastInDim_apply ![0, 1] bcast_S32768x1_S32768x1024_0_1 _ (ix2 t k) (ix2 t 0) (fun a => by
    match a with
    | ⟨0, _⟩ => rfl
    | ⟨1, _⟩ => rfl)]
  rw [broadcastInDim_apply ![0, 1] bcast_S1x1024_S32768x1024_0_1 _ (ix2 t k) (ix2 0 k) (fun a => by
    match a with
    | ⟨0, _⟩ => rfl
    | ⟨1, _⟩ => rfl)]
  rw [tokenSq_at, codeSq_at]
  have h2 : (broadcastInDim S32768x1024 ![] bcast_S_S32768x1024 (constant (F := Ideal) S_ .f32 0x40000000#32) (ix2 t k) : EReal)
      = 2 := by
    show Ideal.ofBits .f32 0x40000000#32 = 2
    simp [Ideal.ofBits, Ideal.ieee, -EReal.coe_mul]; norm_num; rfl
  rw [h2]; rfl

/-- The number of a token's nearest code. -/
abbrev best (t : Fin 32768) : Fin 1024 := least fun k => D (row (flat x) t) (row w k)

/-- The reference's code of a token. -/
theorem codes_at (t : Fin 32768) : codes (F := Ideal) x w (ix1 t) = BitVec.ofNat 32 (best x w t).val := by
  unfold codes
  rw [codesOf_at]
  exact congrArg (fun d : Fin 1024 → EReal => BitVec.ofNat 32 (least d).val) (funext fun k => dist_at x w t k)

variable (k : IVec S32768 32) (l : Fin 32768 → Fin 1024) (hk : ∀ t, k (ix1 t) = BitVec.ofNat 32 (l t).val)

include hk

/-- A code of the book is taken as the row number it is. -/
theorem rowsOf_at (t : Fin 32768) (u : Fin 1) : rowsOf k (ix2 t u) = BitVec.ofNat 32 (l t).val := by
  unfold rowsOf
  rw [broadcastInDim_apply ![0] bcast_S32768_S32768x1_0 _ (ix2 t u) (ix1 t) (fun a => by
    match a with
    | ⟨0, _⟩ => rfl)]
  have h : cmpi .slt k (broadcastInDim S32768 ![] bcast_S_S32768 (constantI S_ 32 0#32)) (ix1 t) = 0#1 := by
    show BitVec.ofBool (decide ((k (ix1 t)).toInt < 0)) = 0#1
    rw [hk, Kern.toInt_code, decide_eq_false (by omega)]
    rfl
  rw [select_apply, h, select_zero, hk]

/-- Every code names a row. -/
theorem inside_at (t : Fin 32768) : inside k (ix1 t) = 1#1 := by
  unfold inside
  refine Host.reduce_andi_one _ _ _ _ _ rfl fun i => ?_
  obtain ⟨t', u, rfl⟩ : ∃ (t' : Fin 32768) (u : Fin 1), i = ix2 t' u := ⟨i 0, i 1, eq_ix2 i⟩
  have h1 : cmpi .sge (rowsOf k) (broadcastInDim S32768x1 ![] bcast_S_S32768x1 (constantI S_ 32 0#32)) (ix2 t' u) = 1#1 := by
    show BitVec.ofBool (decide ((0 : Int) ≤ (rowsOf k (ix2 t' u)).toInt)) = 1#1
    rw [rowsOf_at k l hk, Kern.toInt_code, decide_eq_true (by omega)]
    rfl
  have h2 : cmpi .sle (rowsOf k) (broadcastInDim S32768x1 ![0, 1] bcast_S1x1_S32768x1_0_1
        (broadcastInDim S1x1 ![1] bcast_S1_S1x1_1 (constantI S1 32 1023#32))) (ix2 t' u) = 1#1 := by
    show BitVec.ofBool (decide ((rowsOf k (ix2 t' u)).toInt ≤ (1023 : Int))) = 1#1
    rw [rowsOf_at k l hk, Kern.toInt_code, decide_eq_true (by have := (l t').isLt; omega)]
    rfl
  show IntOp.andi _ _ = 1#1
  rw [h1, h2]
  rfl

/-- The row taken for a token is its code's. -/
theorem taken_at (w : FVec Ideal S1024x64 .f32) (t : Fin 32768) (c : Fin 64) :
    taken (F := Ideal) w k (ix2 t c) = w (ix2 (l t) c) := by
  unfold taken
  rw [select_apply]
  rw [broadcastInDim_apply ![0] bcast_S32768_S32768x64_0 _ (ix2 t c) (ix1 t) (fun a => by
    match a with
    | ⟨0, _⟩ => rfl)]
  rw [inside_at k l hk, select_one]
  unfold Host.gather
  refine congrArg w (funext fun a => Fin.ext ?_)
  match a with
  | ⟨0, _⟩ =>
    show (gather_S1024x64_S32768x1_S32768x64_1_0_n_n_0_1_164).start (ix2 t c) (rowsOf k) 0
      + (gather_S1024x64_S32768x1_S32768x64_1_0_n_n_0_1_164).batchCoord (ix2 t c) 0
      + (gather_S1024x64_S32768x1_S32768x64_1_0_n_n_0_1_164).offCoord (ix2 t c) 0 = (l t).val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (gather_S1024x64_S32768x1_S32768x64_1_0_n_n_0_1_164).startIndexMap from
      List.mem_singleton.mpr rfl)]
    have hsi : (gather_S1024x64_S32768x1_S32768x64_1_0_n_n_0_1_164).siIdx (ix2 t c)
        ⟨List.idxOf (0 : Fin 2) (gather_S1024x64_S32768x1_S32768x64_1_0_n_n_0_1_164).startIndexMap,
          List.idxOf_lt_length_iff.2 (List.mem_singleton.mpr rfl)⟩ = ix2 t (0 : Fin 1) := by
      funext b; refine Fin.ext ?_
      match b with
      | ⟨0, _⟩ => rfl
      | ⟨1, _⟩ => rfl
    have hr := (congrArg (rowsOf k) hsi).trans (rowsOf_at k l hk t 0)
    rw [hr, Kern.toInt_code]
    show min (Int.toNat ((l t).val : Int)) 1023 + 0 + 0 = (l t).val
    have := (l t).isLt
    omega
  | ⟨1, _⟩ =>
    show (gather_S1024x64_S32768x1_S32768x64_1_0_n_n_0_1_164).start (ix2 t c) (rowsOf k) 1
      + (gather_S1024x64_S32768x1_S32768x64_1_0_n_n_0_1_164).batchCoord (ix2 t c) 1
      + (gather_S1024x64_S32768x1_S32768x64_1_0_n_n_0_1_164).offCoord (ix2 t c) 1 = c.val
    rw [GatherDims.batchCoord_eq_zero _ _ _ List.not_mem_nil]
    unfold GatherDims.start
    rw [dif_neg (show (1 : Fin 2) ∉ (gather_S1024x64_S32768x1_S32768x64_1_0_n_n_0_1_164).startIndexMap from by decide)]
    unfold GatherDims.offCoord
    rw [dif_pos (show (1 : Fin 2) ∈ (gather_S1024x64_S32768x1_S32768x64_1_0_n_n_0_1_164).sKept from by decide)]
    show 0 + 0 + c.val = c.val
    omega

end Cert.Vq.Ref

end
-- ==== Proof.Layout.lean ====
/- Where a token lies. The flattened table has, for the position (b, ·, e, h, v) of the input, the token number
   ((b · 8 + e) · 32 + h) · 32 + v; both programs go to the table and back by the same transpositions and reshapes. -/
module

public import proofs.«01_k».proof.Proof.RefRun
public import Idealize.ShloMosaic.Lib.ValueIdx
public import Idealize.ShloMosaic.Lib.Pipeline.Value
public import Mathlib.Algebra.BigOperators.Fin

@[expose] public section

noncomputable section

namespace Cert.Vq

open Cert.ReferenceIdeal Cert.ReferenceIdeal.Gen Idealize.ShloMosaic Idealize.ShloMosaic.ValueIdx

/-- A position's five coordinates are in range. -/
theorem coords_lt (i : S4x64x8x32x32.Idx) : (i 0).val < 4 ∧ (i 1).val < 64 ∧ (i 2).val < 8 ∧ (i 3).val < 32 ∧ (i 4).val < 32 :=
  ⟨(i 0).isLt, (i 1).isLt, (i 2).isLt, (i 3).isLt, (i 4).isLt⟩

/-- The number of the token at a position. -/
def tokOf (i : S4x64x8x32x32.Idx) : Fin 32768 :=
  ⟨(((i 0).val * 8 + (i 2).val) * 32 + (i 3).val) * 32 + (i 4).val, by
    obtain ⟨h0, h1, h2, h3, h4⟩ := coords_lt i; omega⟩

/-- The channel of a position. -/
def chanOf (i : S4x64x8x32x32.Idx) : Fin 64 := ⟨(i 1).val, (i 1).isLt⟩

/-- The number of the token at a position given without its channel. -/
def tokOf' (i : S4x8x32x32.Idx) : Fin 32768 :=
  ⟨(((i 0).val * 8 + (i 1).val) * 32 + (i 2).val) * 32 + (i 3).val, by
    have h0 : (i 0).val < 4 := (i 0).isLt
    have h1 : (i 1).val < 8 := (i 1).isLt
    have h2 : (i 2).val < 32 := (i 2).isLt
    have h3 : (i 3).val < 32 := (i 3).isLt
    omega⟩

variable {F : FTy → Type} [FloatOps F]

/-- The table at a position's token and channel is the input there. -/
theorem flat_at (x : FVec F S4x64x8x32x32 .f32) (i : S4x64x8x32x32.Idx) : Ref.flat x (ix2 (tokOf i) (chanOf i)) = x i := by
  unfold Ref.flat
  rw [shapeCast_apply _ shapeCasts_S4x8x32x32x64_S32768x64 (ix2 (tokOf i) (chanOf i))
    (ix5 (⟨(i 0).val, (i 0).isLt⟩ : Fin 4) (⟨(i 2).val, (i 2).isLt⟩ : Fin 8) (⟨(i 3).val, (i 3).isLt⟩ : Fin 32)
      (⟨(i 4).val, (i 4).isLt⟩ : Fin 32) (chanOf i)) (by
      rewrite [Shape.rowMajor_val_five, Shape.rowMajor_val_two]
      rfl)]
  exact transpose_apply [0, 2, 3, 4, 1] x transposes_S4x64x8x32x32_S4x8x32x32x64_0_2_3_4_1 _ i (fun b => by
    match b with
    | ⟨0, _⟩ => rfl
    | ⟨1, _⟩ => rfl
    | ⟨2, _⟩ => rfl
    | ⟨3, _⟩ => rfl
    | ⟨4, _⟩ => rfl)

/-- A table put back in the input's layout has its token and channel at a position. -/
theorem quantOf_at (q : FVec F S32768x64 .f32) (i : S4x64x8x32x32.Idx) : Ref.quantOf q i = q (ix2 (tokOf i) (chanOf i)) := by
  unfold Ref.quantOf
  rw [transpose_apply [0, 4, 1, 2, 3] _ transposes_S4x8x32x32x64_S4x64x8x32x32_0_4_1_2_3 i
    (ix5 (⟨(i 0).val, (i 0).isLt⟩ : Fin 4) (⟨(i 2).val, (i 2).isLt⟩ : Fin 8) (⟨(i 3).val, (i 3).isLt⟩ : Fin 32)
      (⟨(i 4).val, (i 4).isLt⟩ : Fin 32) (chanOf i)) (fun b => by
    match b with
    | ⟨0, _⟩ => rfl
    | ⟨1, _⟩ => rfl
    | ⟨2, _⟩ => rfl
    | ⟨3, _⟩ => rfl
    | ⟨4, _⟩ => rfl)]
  exact shapeCast_apply _ shapeCasts_S32768x64_S4x8x32x32x64 _ (ix2 (tokOf i) (chanOf i)) (by
    rewrite [Shape.rowMajor_val_five, Shape.rowMajor_val_two]
    rfl)

/-- A number per token in the input's layout. -/
theorem mapOf_at (k : IVec S32768 32) (i : S4x8x32x32.Idx) : Ref.mapOf k i = k (ix1 (tokOf' i)) := by
  unfold Ref.mapOf
  exact shapeCast_apply _ shapeCasts_S32768_S4x8x32x32 _ (ix1 (tokOf' i)) (by
    rewrite [Shape.rowMajor_val_four, Shape.rowMajor_val_one]
    rfl)

/-- Positions are tokens with channels. -/
theorem tokChan_bijective : Function.Bijective fun i : S4x64x8x32x32.Idx => (tokOf i, chanOf i) := by
  constructor
  · intro i j e
    obtain ⟨h0, h1, h2, h3, h4⟩ := coords_lt i
    obtain ⟨g0, g1, g2, g3, g4⟩ := coords_lt j
    have e1 : (((i 0).val * 8 + (i 2).val) * 32 + (i 3).val) * 32 + (i 4).val =
        (((j 0).val * 8 + (j 2).val) * 32 + (j 3).val) * 32 + (j 4).val := congrArg (fun p => p.1.val) e
    have e2 : (i 1).val = (j 1).val := congrArg (fun p => p.2.val) e
    funext a
    apply Fin.ext
    match a with
    | ⟨0, _⟩ => show (i 0).val = (j 0).val; omega
    | ⟨1, _⟩ => exact e2
    | ⟨2, _⟩ => show (i 2).val = (j 2).val; omega
    | ⟨3, _⟩ => show (i 3).val = (j 3).val; omega
    | ⟨4, _⟩ => show (i 4).val = (j 4).val; omega
  · rintro ⟨t, c⟩
    have ht := t.isLt
    refine ⟨ix5 (⟨t.val / 8192, by omega⟩ : Fin 4) c (⟨t.val / 1024 % 8, by omega⟩ : Fin 8)
      (⟨t.val / 32 % 32, by omega⟩ : Fin 32) (⟨t.val % 32, by omega⟩ : Fin 32), Prod.ext (Fin.ext ?_) rfl⟩
    show ((t.val / 8192 * 8 + t.val / 1024 % 8) * 32 + t.val / 32 % 32) * 32 + t.val % 32 = t.val
    omega

/-- A sum over the positions, token by token. -/
theorem sum_positions (f : Fin 32768 → Fin 64 → EReal) :
    ∑ i : S4x64x8x32x32.Idx, f (tokOf i) (chanOf i) = ∑ t, ∑ c, f t c := by
  rw [← Fintype.sum_prod_type' f]
  exact Fintype.sum_bijective _ tokChan_bijective _ _ fun _ => rfl

/-- Tokens are rows of blocks. -/
theorem blockRow_bijective : Function.Bijective fun p : Fin 8 × Fin 4096 =>
    (⟨4096 * p.1.val + p.2.val, by have := p.1.isLt; have := p.2.isLt; omega⟩ : Fin 32768) := by
  constructor
  · rintro ⟨b, r⟩ ⟨b', r'⟩ e
    have e' : 4096 * b.val + r.val = 4096 * b'.val + r'.val := congrArg Fin.val e
    have := r.isLt
    have := r'.isLt
    exact Prod.ext (Fin.ext (by show b.val = b'.val; omega)) (Fin.ext (by show r.val = r'.val; omega))
  · intro t
    have := t.isLt
    refine ⟨(⟨t.val / 4096, by omega⟩, ⟨t.val % 4096, by omega⟩), Fin.ext ?_⟩
    show 4096 * (t.val / 4096) + t.val % 4096 = t.val
    omega

/-- A sum over the tokens, block by block. -/
theorem sum_blocks (f : Fin 32768 → EReal) :
    ∑ b : Fin 8, ∑ r : Fin 4096, f ⟨4096 * b.val + r.val, by have := b.isLt; have := r.isLt; omega⟩ = ∑ t, f t := by
  rw [← Fintype.sum_prod_type' fun (b : Fin 8) (r : Fin 4096) =>
    f ⟨4096 * b.val + r.val, by have := b.isLt; have := r.isLt; omega⟩]
  exact Fintype.sum_bijective _ blockRow_bijective _ _ fun _ => rfl

end Cert.Vq

end
-- ==== Proof.Equal.lean ====
/- The two programs' results at the extended reals. Both choose, for every token, the lowest code of least distance, with
   no condition on the entries. Where the code book is real the kernel's product with the one-hot row is the row itself,
   so the straight-through results agree. Where the input is real too, the least distance, which the kernel adds up in its
   expanded form, is the sum of the squared differences the reference adds up, so the losses agree. -/
module

public import proofs.«01_k».proof.Proof.KRun
public import proofs.«01_k».proof.Proof.KPay
public import proofs.«01_k».proof.Proof.RefValue
public import proofs.«01_k».proof.Proof.Layout

@[expose] public section

noncomputable section

namespace Cert.Vq

open Idealize.ShloMosaic Idealize.ShloMosaic.ValueIdx
open Cert.ReferenceIdeal (S4x64x8x32x32 S1024x64 S32768x64 S32768 S4x8x32x32)
open Cert.Vq.Kern (row dists tokBlock blkOf rowOf total)
open Cert.Vq.Ref (best)

variable (x : FVec Ideal S4x64x8x32x32 .f32) (w : FVec Ideal S1024x64 .f32)

/-- Both programs flatten the input alike. -/
theorem flat_eq : Kern.flat (F := Ideal) x = Ref.flat x := by
  unfold Kern.flat Ref.flat
  rfl

/-- A row of a block is its token's row of the table. -/
theorem row_tokBlock (X : FVec Ideal S32768x64 .f32) (b : Fin 8) (r : Fin 4096) (t : Fin 32768)
    (h : t.val = 4096 * b.val + r.val) : row (tokBlock X b) r = row X t := by
  funext c
  refine congrArg X (funext fun a => Fin.ext ?_)
  match a with
  | ⟨0, _⟩ => exact h.symm
  | ⟨1, _⟩ => rfl

/-- So its distances are the token's. -/
theorem dists_tokBlock (X : FVec Ideal S32768x64 .f32) (b : Fin 8) (r : Fin 4096) (t : Fin 32768)
    (h : t.val = 4096 * b.val + r.val) : dists (tokBlock X b) w r = fun k => D (row X t) (row w k) := by
  funext k
  show D (row (tokBlock X b) r) (row w k) = _
  rw [row_tokBlock X b r t h]

/-- The block and row of a token make it up. -/
theorem blk_row (t : Fin 32768) : t.val = 4096 * (blkOf t).val + (rowOf t).val := by
  show t.val = 4096 * (t.val / 4096) + t.val % 4096
  omega

/-- The kernel's straight-through table, at a token and a channel. -/
theorem arr2_at (hw : ∀ i, IsFin (w i)) (t : Fin 32768) (c : Fin 64) :
    (Kern.arr2 (F := Ideal) (Ref.flat x) w (ix2 t c) : EReal) =
      Ref.flat x (ix2 t c) + (w (ix2 (best x w t) c) - Ref.flat x (ix2 t c)) := by
  have h := Kern.through_at (tokBlock (Ref.flat x) (blkOf t)) w hw (rowOf t) c
  rw [dists_tokBlock w (Ref.flat x) (blkOf t) (rowOf t) t (blk_row t)] at h
  have e : tokBlock (Ref.flat x) (blkOf t) (ix2 (rowOf t) c) = Ref.flat x (ix2 t c) :=
    congrFun (row_tokBlock (Ref.flat x) (blkOf t) (rowOf t) t (blk_row t)) c
  rw [e] at h
  exact h

/-- The reference's quantised input at a position: its token's nearest code, at its channel. -/
theorem quant_at (i : S4x64x8x32x32.Idx) :
    (Ref.quant (F := Ideal) x w i : EReal) = w (ix2 (best x w (tokOf i)) (chanOf i)) := by
  unfold Ref.quant
  rw [quantOf_at]
  exact Ref.taken_at (Ref.codes x w) (best x w) (Ref.codes_at x w) w (tokOf i) (chanOf i)

/-- The straight-through results agree where the code book is real. -/
theorem through_eq (hw : ∀ i, IsFin (w i)) : Kern.through (F := Ideal) x w = Ref.through x w := by
  have e : Kern.through (F := Ideal) x w = Ref.quantOf (Kern.arr2 (Kern.flat x) w) := by
    unfold Kern.through Ref.quantOf
    rfl
  rw [e, flat_eq]
  funext i
  rw [quantOf_at]
  refine (arr2_at x w hw (tokOf i) (chanOf i)).trans ?_
  rw [flat_at]
  unfold Ref.through Ref.throughOf
  rw [addf_apply, subf_apply, quant_at]

/-- The kernel's codes, block by block, at a block and a row. -/
theorem arr3_at (b : Fin 8) (u : Fin 1) (r : Fin 4096) (t : Fin 32768) (h : t.val = 4096 * b.val + r.val) :
    Kern.arr3 (F := Ideal) (Ref.flat x) w (ix3 b u r) = BitVec.ofNat 32 (best x w t).val := by
  have e := (Kern.pay3_at (Kern.near (tokBlock (Ref.flat x) b) w) r).trans (Kern.pay7_at (tokBlock (Ref.flat x) b) w r)
  rw [dists_tokBlock w (Ref.flat x) b r t h] at e
  exact e

/-- The codes agree, whatever the entries. -/
theorem codeMap_eq : Kern.codeMap (F := Ideal) x w = Ref.codeMap x w := by
  funext i
  unfold Kern.codeMap Ref.codeMap
  rw [flat_eq, mapOf_at, Ref.codes_at]
  rw [shapeCast_apply _ Cert.KernelIdeal.Gen.shapeCasts_S8x1x4096_S4x8x32x32 i
    (ix3 (blkOf (tokOf' i)) (0 : Fin 1) (rowOf (tokOf' i))) (by
      rewrite [Shape.rowMajor_val_four, Shape.rowMajor_val_three]
      show ((tokOf' i).val / 4096 * 1 + 0) * 4096 + (tokOf' i).val % 4096 = (tokOf' i).val
      omega)]
  exact arr3_at x w _ _ _ _ (blk_row _)

/-- The least distance of a token. -/
def leastDist (t : Fin 32768) : EReal := D (row (Ref.flat x) t) (row w (best x w t))

/-- What a block adds to the loss cell: the least distances of its tokens. -/
theorem block_total (b : Fin 8) (z : EReal) :
    (Cert.KernelIdeal.Gen.k0_pay8 (F := Ideal) (tokBlock (Ref.flat x) b) w z : EReal) =
      z + ∑ r : Fin 4096, leastDist x w ⟨4096 * b.val + r.val, by have := b.isLt; have := r.isLt; omega⟩ := by
  rw [Kern.pay8_at]
  refine congrArg (z + ·) (Finset.sum_congr rfl fun r _ => ?_)
  rw [dists_tokBlock w (Ref.flat x) b r ⟨4096 * b.val + r.val, by have := b.isLt; have := r.isLt; omega⟩ rfl]
  rfl

/-- The kernel's total is the sum of all tokens' least distances. -/
theorem total_eq : (total (F := Ideal) (Ref.flat x) w 7 (by omega) : EReal) = ∑ t, leastDist x w t := by
  have hz : (Kern.zeroCell (F := Ideal) : EReal) = 0 := Ideal.ofBits_zero_f32
  rw [← sum_blocks, Fin.sum_univ_eight]
  simp only [total]
  simp only [block_total, hz, zero_add]
  rfl

/-- The reference's sum of squared differences is the same, where the entries are real. -/
theorem sum_sq (hx : ∀ i, IsFin (x i)) (hw : ∀ i, IsFin (w i)) :
    ∑ i : S4x64x8x32x32.Idx, ((Ref.quant (F := Ideal) x w i : EReal) - x i) * (Ref.quant (F := Ideal) x w i - x i) =
      ∑ t, leastDist x w t := by
  have hX : ∀ t c, IsFin (Ref.flat (F := Ideal) x (ix2 t c)) := fun t c => by
    obtain ⟨i, hi⟩ := tokChan_bijective.2 (t, c)
    have h1 : tokOf i = t := congrArg Prod.fst hi
    have h2 : chanOf i = c := congrArg Prod.snd hi
    rw [← h1, ← h2, flat_at]
    exact hx i
  have e : ∀ t, leastDist x w t = ∑ c, (w (ix2 (best x w t) c) - Ref.flat x (ix2 t c)) *
      (w (ix2 (best x w t) c) - Ref.flat x (ix2 t c)) := fun t => D_eq _ _ (hX t) fun c => hw _
  rw [Finset.sum_congr rfl fun t _ => e t]
  rw [← sum_positions fun t c => (w (ix2 (best x w t) c) - Ref.flat (F := Ideal) x (ix2 t c)) *
      (w (ix2 (best x w t) c) - Ref.flat x (ix2 t c))]
  refine Finset.sum_congr rfl fun i _ => ?_
  rw [quant_at, flat_at]

/-- The reference's mean squared difference. -/
theorem meanSq_at (hx : ∀ i, IsFin (x i)) (hw : ∀ i, IsFin (w i)) (j : Cert.ReferenceIdeal.S_.Idx) :
    (Ref.meanSq (F := Ideal) x (Ref.quant x w) j : EReal) =
      Ideal.div (∑ t, leastDist x w t) (Ideal.ofBits .f32 0x4A000000#32) := by
  unfold Ref.meanSq
  simp only [Host.reduceAdd, Ideal.hostReduceAdd_def]
  refine congrArg (fun z : EReal => Ideal.div z (Ideal.ofBits .f32 0x4A000000#32)) ?_
  refine (Ideal.hostReduceAdd_total _ (fun b => b.elim0) _ _ _).trans ?_
  have h0 : (constant (F := Ideal) Cert.ReferenceIdeal.S_ .f32 0x00000000#32
      (Shape.Idx.first Cert.ReferenceIdeal.Gen.h_S_) : EReal) = 0 := Ideal.ofBits_zero_f32
  refine (congrArg (· + _) h0).trans ((zero_add _).trans ?_)
  exact sum_sq x w hx hw

/-- The losses agree where the input and the code book are real. -/
theorem loss_eq (hx : ∀ i, IsFin (x i)) (hw : ∀ i, IsFin (w i)) : Kern.loss (F := Ideal) x w = Ref.loss x w := by
  funext j
  have hk : (Kern.loss (F := Ideal) x w j : EReal) =
      Cert.KernelIdeal.Gen.k0_pay1 (total (F := Ideal) (Ref.flat x) w 7 (by omega)) := by
    rw [← flat_eq]
    rfl
  have hr : (Ref.loss (F := Ideal) x w j : EReal) = Ref.meanSq (F := Ideal) x (Ref.quant x w) j +
      Ideal.ofBits .f32 0x3E800000#32 * Ref.meanSq (F := Ideal) x (Ref.quant x w) j := rfl
  rw [hk, hr, meanSq_at x w hx hw, Kern.pay1_eq, total_eq]

end Cert.Vq

end
-- ==== Proof.Finite.lean ====
/- What the precondition says: every entry of the input and of the code book is a real number. -/
module

public import proofs.«01_k».proof.Pre_finite
public import proofs.«01_k».proof.Proof.Spec
public import Idealize.ShloMosaic.Lib.ReduceAll
public import Idealize.ShloMosaic.Lib.ValueIdx
public import Idealize.ShloMosaic.PureOps.Ideal.Laws

@[expose] public section

noncomputable section

namespace Cert.Vq

open Cert.Pre_finite Idealize.ShloMosaic Idealize.ShloMosaic.ValueIdx

/-- The shape relations of the precondition's operations. -/
theorem finiteFacts : Cert.Pre_finite.Facts where
  bcast_S_S4x64x8x32x32 := by decide
  reducesTo_S4x64x8x32x32_S_d0_1_2_3_4 := by decide
  h_S_ := by decide
  bcast_S_S1024x64 := by decide
  reducesTo_S1024x64_S_d0_1 := by decide

/-- An extended real of absolute value below `⊤` is real. -/
theorem isFin_of_abs_lt (a : EReal) (h : max a (-a) < ⊤) : IsFin a := by
  induction a with
  | bot => exact absurd h (by simp)
  | coe r => exact ⟨r, rfl⟩
  | top => exact absurd h (by simp)

/-- The printed comparison of an absolute value with infinity, read back. -/
theorem isFin_of_cmp (a : Ideal .f32)
    (h : FloatOps.cmpf (F := Ideal) (φ := .f32) .olt (FloatOps.absf (F := Ideal) a) (FloatOps.ofBits .f32 0x7F800000#32) = 1#1) : IsFin a := by
  have ht : (FloatOps.ofBits .f32 0x7F800000#32 : Ideal .f32) = (⊤ : EReal) := by
    show Ideal.ofBits .f32 0x7F800000#32 = ⊤
    simp [Ideal.ofBits, Ideal.ieee]
  rw [ht, Ideal.cmpf_def, Ideal.absf_def] at h
  refine isFin_of_abs_lt a ?_
  by_contra hn
  have : Ideal.cmp .olt (max a (-a)) ⊤ = 0#1 := by
    show BitVec.ofBool (decide (max a (-a) < ⊤)) = 0#1
    rw [decide_eq_false hn]
    rfl
  rw [this] at h
  exact absurd h (by decide)

instance : Subsingleton S_.Idx := ⟨fun a b => funext fun i => i.elim0⟩

open Cert.Pre_finite.Facts

/-- The first half of the precondition, spelt out. -/
theorem fn_fst [Cert.Pre_finite.Facts] (x : FVec Ideal S4x64x8x32x32 .f32) (w : FVec Ideal S1024x64 .f32) :
    (fn (F := Ideal) x w).1 = Host.reduce IntOp.andi (cmpf .olt (Host.absf x)
      (broadcastInDim S4x64x8x32x32 ![] bcast_S_S4x64x8x32x32 (constant S_ .f32 0x7F800000#32)))
      (constantI S_ 1 1#1) reducesTo_S4x64x8x32x32_S_d0_1_2_3_4 h_S_ := by
  unfold fn
  with_reducible rfl

/-- The second half. -/
theorem fn_snd [Cert.Pre_finite.Facts] (x : FVec Ideal S4x64x8x32x32 .f32) (w : FVec Ideal S1024x64 .f32) :
    (fn (F := Ideal) x w).2 = Host.reduce IntOp.andi (cmpf .olt (Host.absf w)
      (broadcastInDim S1024x64 ![] bcast_S_S1024x64 (constant S_ .f32 0x7F800000#32)))
      (constantI S_ 1 1#1) reducesTo_S1024x64_S_d0_1 h_S_ := by
  unfold fn
  with_reducible rfl

/-- Under the precondition the input and the code book are real throughout. -/
theorem isFin_of_pre [Cert.Pre_finite.Facts] (x : FVec Ideal S4x64x8x32x32 .f32) (w : FVec Ideal S1024x64 .f32)
    (h1 : (fn (F := Ideal) x w).1 = fun _ => 1#1) (h2 : (fn (F := Ideal) x w).2 = fun _ => 1#1) :
    (∀ i, IsFin (x i)) ∧ ∀ i, IsFin (w i) := by
  rw [fn_fst] at h1
  rw [fn_snd] at h2
  refine ⟨fun i => ?_, fun i => ?_⟩
  · have e := Host.reduce_andi_all _ _ _ _ ix0 (congrFun h1 ix0) i
    exact isFin_of_cmp (x i) e
  · have e := Host.reduce_andi_all _ _ _ _ ix0 (congrFun h2 ix0) i
    exact isFin_of_cmp (w i) e

end Cert.Vq

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Equal
public import proofs.«01_k».proof.Proof.Finite
public import Idealize.ShloMosaic.Adequacy
public import Idealize.ShloMosaic.Init

@[expose] public section

noncomputable section

namespace Cert.Proof

open Idealize.ShloMosaic Idealize.SL.Sem

/-- The idealized kernel and the idealized reference, run from the same finite input and code book, end with the same
    straight-through result, the same loss and the same codes, and leave their arguments as they were. -/
theorem values : Cert.algebraic_KernelIdeal_ReferenceIdeal_pre_finite (hKernelIdeal := Cert.KernelIdeal.Gen.facts)
    (hReferenceIdeal := Cert.ReferenceIdeal.Gen.facts) (hPre_finite := Cert.Vq.finiteFacts) := by
  intro m g m' g' hpre hagree
  have hfin := fun c => @Cert.Vq.isFin_of_pre Cert.Vq.finiteFacts _ _ (hpre c).1 (hpre c).2
  refine ⟨fun c => Cert.Vq.Kern.through (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => Cert.Vq.Kern.loss (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => Cert.Vq.Kern.codeMap (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Vq.Kern.run m g, ?_⟩
  refine (θ_run _ _ _).mono (fun r h c => ?_) (Cert.Vq.Ref.run m' g')
  obtain ⟨h1, h2, h3, h4, h5⟩ := h c
  refine ⟨h1.trans ?_, h2.trans ?_, h3.trans ?_, h4, h5⟩
  · rw [(hagree c).1, (hagree c).2]
    exact (Cert.Vq.through_eq _ _ (hfin c).2).symm
  · rw [(hagree c).1, (hagree c).2]
    exact (Cert.Vq.loss_eq _ _ (hfin c).1 (hfin c).2).symm
  · rw [(hagree c).1, (hagree c).2]
    exact (Cert.Vq.codeMap_eq _ _).symm

/-- Every claim: the three programs run, end quiescent and leave their arguments, the idealized kernel is the kernel's
    own text, and its results are the reference's. -/
theorem claim : Cert.Claim :=
  ⟨Cert.Kernel.Gen.facts, Cert.KernelIdeal.Gen.facts, Cert.ReferenceIdeal.Gen.facts, Cert.Vq.finiteFacts,
    fun m g _ => Cert.Kernel.Gen.frame m g,
    fun m g _ => Cert.KernelIdeal.Gen.frame m g,
    fun m g _ => Cert.KernelIdeal.Gen.frame m g,
    fun m g _ => Cert.Vq.Ref.frame m g,
    fun m g _ => Cert.Vq.Ref.frame m g,
    trivial,
    values⟩

end Cert.Proof

end
